-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_v17) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S320000x128 : Shape := ⟨2, ![320000, 128]⟩
abbrev S32x8x16 : Shape := ⟨3, ![32, 8, 16]⟩
abbrev S2x400x128 : Shape := ⟨3, ![2, 400, 128]⟩
abbrev S8x16 : Shape := ⟨2, ![8, 16]⟩
abbrev S_ : Shape := ⟨0, ![]⟩
abbrev S1x400x128 : Shape := ⟨3, ![1, 400, 128]⟩
abbrev S400x128 : Shape := ⟨2, ![400, 128]⟩
abbrev S16 : Shape := ⟨1, ![16]⟩
abbrev S1x1x16 : Shape := ⟨3, ![1, 1, 16]⟩
abbrev S1x16 : Shape := ⟨2, ![1, 16]⟩
abbrev S1x8x16 : Shape := ⟨3, ![1, 8, 16]⟩
abbrev S32x128 : Shape := ⟨2, ![32, 128]⟩
abbrev S1x128 : Shape := ⟨2, ![1, 128]⟩
abbrev S8000x128 : Shape := ⟨2, ![8000, 128]⟩
abbrev S128 : Shape := ⟨1, ![128]⟩
abbrev S1x1 : Shape := ⟨2, ![1, 1]⟩
abbrev S2000x128 : Shape := ⟨2, ![2000, 128]⟩
abbrev S200x128 : Shape := ⟨2, ![200, 128]⟩
abbrev S1 : Shape := ⟨1, ![1]⟩

abbrev nBuf : Table → Nat
  | .hbm => 11
  | .local .tc .vmem => 9
  | .local .tc .smem => 1
  | .local .scVector .vmem => 2
  | _ => 0

abbrev bufTy : (tb : Table) → Fin (nBuf tb) → BufTy
  | .hbm, ⟨0, _⟩ => ⟨S320000x128, .f32⟩
  | .hbm, ⟨1, _⟩ => ⟨S32x8x16, .f32⟩
  | .hbm, ⟨2, _⟩ => ⟨S32x128, .f32⟩
  | .hbm, ⟨3, _⟩ => ⟨S1x128, .f32⟩
  | .hbm, ⟨4, _⟩ => ⟨S1x128, .f32⟩
  | .hbm, ⟨5, _⟩ => ⟨S1x128, .f32⟩
  | .hbm, ⟨6, _⟩ => ⟨S1x1, .i32⟩
  | .hbm, ⟨7, _⟩ => ⟨S_, .i32⟩
  | .hbm, ⟨8, _⟩ => ⟨S_, .i32⟩
  | .hbm, ⟨9, _⟩ => ⟨S_, .i1⟩
  | .hbm, ⟨10, _⟩ => ⟨S128, .f32⟩
  | .local .tc .vmem, ⟨0, _⟩ => ⟨S8000x128, .f32⟩
  | .local .tc .vmem, ⟨1, _⟩ => ⟨S8000x128, .f32⟩
  | .local .tc .vmem, ⟨2, _⟩ => ⟨S1x128, .f32⟩
  | .local .tc .vmem, ⟨3, _⟩ => ⟨S2000x128, .f32⟩
  | .local .tc .vmem, ⟨4, _⟩ => ⟨S2000x128, .f32⟩
  | .local .tc .vmem, ⟨5, _⟩ => ⟨S32x128, .f32⟩
  | .local .tc .vmem, ⟨6, _⟩ => ⟨S1x128, .f32⟩
  | .local .tc .vmem, ⟨7, _⟩ => ⟨S1x128, .f32⟩
  | .local .tc .vmem, ⟨8, _⟩ => ⟨S1x128, .f32⟩
  | .local .tc .smem, ⟨0, _⟩ => ⟨S1x1, .i32⟩
  | .local .scVector .vmem, ⟨0, _⟩ => ⟨S2x400x128, .f32⟩
  | .local .scVector .vmem, ⟨1, _⟩ => ⟨S8x16, .f32⟩
  | _, _ => ⟨S320000x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 13 → Bool
  | ⟨0, _⟩ => false
  | ⟨1, _⟩ => false
  | ⟨2, _⟩ => false
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTables nBuf rfl bufTy 4 13 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3_0 : Ref sig .tc := ⟨.hbm, 4, rfl⟩
abbrev main_v3_1 : Ref sig .tc := ⟨.hbm, 5, rfl⟩
abbrev main_v3_2 : Ref sig .tc := ⟨.hbm, 6, rfl⟩
abbrev main_v4 : Ref sig .tc := ⟨.hbm, 7, rfl⟩
abbrev main_c : Ref sig .tc := ⟨.hbm, 8, rfl⟩
abbrev main_v5 : Ref sig .tc := ⟨.hbm, 9, rfl⟩
abbrev main_v6 : Ref sig .tc := ⟨.hbm, 10, rfl⟩
abbrev main_arg0_scv : Ref sig .scVector := ⟨.hbm, 0, rfl⟩
abbrev main_v0_scv : Ref sig .scVector := ⟨.hbm, 1, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc2_stg0_0 : Ref sig .tc := ⟨.vmem, 3, rfl⟩
abbrev cc2_stg0_1 : Ref sig .tc := ⟨.vmem, 4, rfl⟩
abbrev cc2_stg1_0 : Ref sig .tc := ⟨.vmem, 5, rfl⟩
abbrev cc2_stg2_0 : Ref sig .tc := ⟨.vmem, 6, rfl⟩
abbrev cc2_stg3_0 : Ref sig .tc := ⟨.vmem, 7, rfl⟩
abbrev cc2_stg4_0 : Ref sig .tc := ⟨.vmem, 8, rfl⟩
abbrev cc2_stg5_0 : Ref sig .tc := ⟨.smem, 0, rfl⟩
abbrev cc0_scratch0 : Ref sig .scVector := ⟨.vmem, 0, rfl⟩
abbrev cc0_scratch1 : Ref sig .scVector := ⟨.vmem, 1, rfl⟩
abbrev cc1_sem0_0 : DmaSem sig := 3
abbrev cc1_sem0_1 : DmaSem sig := 4
abbrev cc1_sem1_0 : DmaSem sig := 5
abbrev cc2_sem0_0 : DmaSem sig := 6
abbrev cc2_sem0_1 : DmaSem sig := 7
abbrev cc2_sem1_0 : DmaSem sig := 8
abbrev cc2_sem2_0 : DmaSem sig := 9
abbrev cc2_sem3_0 : DmaSem sig := 10
abbrev cc2_sem4_0 : DmaSem sig := 11
abbrev cc2_sem5_0 : DmaSem sig := 12
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c4000_i32 : BitVec 32 := 4000#32
  let v2 : BitVec 32 := Scalar.muli v1 c4000_i32
  let v3 : BitVec 32 := Scalar.addi v2 c0_i32
  let c0_i32_3 : BitVec 32 := 0#32
  ![v3.toNat, 0]
@[reducible] def k0_t1_loop : Scf.Loop 32 :=
  let c0_i32_28 : BitVec 32 := 0#32
  let c400_i32_29 : BitVec 32 := 400#32
  let v32 : BitVec 32 := Scalar.addi c0_i32_28 c400_i32_29
  let c1_i32_30 : BitVec 32 := 1#32
  ⟨c0_i32_28, v32, c1_i32_30⟩
def k0_off2 (k0_t1 : Fin k0_t1_loop.trips) : Fin 3 → Nat :=
  let c0_i32_205 : BitVec 32 := 0#32
  let v203 : Index := Scalar.indexCast c0_i32_205
  let c0_i32_28 : BitVec 32 := 0#32
  let c1_i32_30 : BitVec 32 := 1#32
  let arg8 : BitVec 32 := Scf.iv c0_i32_28 c1_i32_30 k0_t1
  let v204 : Index := Scalar.indexCast arg8
  let c0_206 : Index := 0#32
  ![0, v204.toNat, 0]
def k0_off3 (k0_t1 : Fin k0_t1_loop.trips) : Fin 3 → Nat :=
  let c0_i32_207 : BitVec 32 := 0#32
  let v208 : Index := Scalar.indexCast c0_i32_207
  let c0_i32_28 : BitVec 32 := 0#32
  let c1_i32_30 : BitVec 32 := 1#32
  let arg8 : BitVec 32 := Scf.iv c0_i32_28 c1_i32_30 k0_t1
  let v209 : Index := Scalar.indexCast arg8
  let c16 : Index := 16#32
  ![0, v209.toNat, 16]
def k0_off4 (k0_t1 : Fin k0_t1_loop.trips) : Fin 3 → Nat :=
  let c0_i32_208 : BitVec 32 := 0#32
  let v213 : Index := Scalar.indexCast c0_i32_208
  let c0_i32_28 : BitVec 32 := 0#32
  let c1_i32_30 : BitVec 32 := 1#32
  let arg8 : BitVec 32 := Scf.iv c0_i32_28 c1_i32_30 k0_t1
  let v214 : Index := Scalar.indexCast arg8
  let c32 : Index := 32#32
  ![0, v214.toNat, 32]
def k0_off5 (k0_t1 : Fin k0_t1_loop.trips) : Fin 3 → Nat :=
  let c0_i32_209 : BitVec 32 := 0#32
  let v218 : Index := Scalar.indexCast c0_i32_209
  let c0_i32_28 : BitVec 32 := 0#32
  let c1_i32_30 : BitVec 32 := 1#32
  let arg8 : BitVec 32 := Scf.iv c0_i32_28 c1_i32_30 k0_t1
  let v219 : Index := Scalar.indexCast arg8
  let c48 : Index := 48#32
  ![0, v219.toNat, 48]
def k0_off6 (k0_t1 : Fin k0_t1_loop.trips) : Fin 3 → Nat :=
  let c0_i32_210 : BitVec 32 := 0#32
  let v223 : Index := Scalar.indexCast c0_i32_210
  let c0_i32_28 : BitVec 32 := 0#32
  let c1_i32_30 : BitVec 32 := 1#32
  let arg8 : BitVec 32 := Scf.iv c0_i32_28 c1_i32_30 k0_t1
  let v224 : Index := Scalar.indexCast arg8
  let c64 : Index := 64#32
  ![0, v224.toNat, 64]
def k0_off7 (k0_t1 : Fin k0_t1_loop.trips) : Fin 3 → Nat :=
  let c0_i32_211 : BitVec 32 := 0#32
  let v228 : Index := Scalar.indexCast c0_i32_211
  let c0_i32_28 : BitVec 32 := 0#32
  let c1_i32_30 : BitVec 32 := 1#32
  let arg8 : BitVec 32 := Scf.iv c0_i32_28 c1_i32_30 k0_t1
  let v229 : Index := Scalar.indexCast arg8
  let c80 : Index := 80#32
  ![0, v229.toNat, 80]
def k0_off8 (k0_t1 : Fin k0_t1_loop.trips) : Fin 3 → Nat :=
  let c0_i32_212 : BitVec 32 := 0#32
  let v233 : Index := Scalar.indexCast c0_i32_212
  let c0_i32_28 : BitVec 32 := 0#32
  let c1_i32_30 : BitVec 32 := 1#32
  let arg8 : BitVec 32 := Scf.iv c0_i32_28 c1_i32_30 k0_t1
  let v234 : Index := Scalar.indexCast arg8
  let c96 : Index := 96#32
  ![0, v234.toNat, 96]
def k0_off9 (k0_t1 : Fin k0_t1_loop.trips) : Fin 3 → Nat :=
  let c0_i32_213 : BitVec 32 := 0#32
  let v238 : Index := Scalar.indexCast c0_i32_213
  let c0_i32_28 : BitVec 32 := 0#32
  let c1_i32_30 : BitVec 32 := 1#32
  let arg8 : BitVec 32 := Scf.iv c0_i32_28 c1_i32_30 k0_t1
  let v239 : Index := Scalar.indexCast arg8
  let c112 : Index := 112#32
  ![0, v239.toNat, 112]
@[reducible] def k0_t2_loop : Scf.Loop 32 :=
  let c0_i32_47 : BitVec 32 := 0#32
  let c400_i32_48 : BitVec 32 := 400#32
  let v48 : BitVec 32 := Scalar.addi c0_i32_47 c400_i32_48
  let c1_i32_49 : BitVec 32 := 1#32
  ⟨c0_i32_47, v48, c1_i32_49⟩
def k0_off10 (k0_t2 : Fin k0_t2_loop.trips) : Fin 3 → Nat :=
  let c1_i32_205 : BitVec 32 := 1#32
  let v203 : Index := Scalar.indexCast c1_i32_205
  let c0_i32_47 : BitVec 32 := 0#32
  let c1_i32_49 : BitVec 32 := 1#32
  let arg8 : BitVec 32 := Scf.iv c0_i32_47 c1_i32_49 k0_t2
  let v204 : Index := Scalar.indexCast arg8
  let c0_206 : Index := 0#32
  ![1, v204.toNat, 0]
def k0_off11 (k0_t2 : Fin k0_t2_loop.trips) : Fin 3 → Nat :=
  let c1_i32_207 : BitVec 32 := 1#32
  let v208 : Index := Scalar.indexCast c1_i32_207
  let c0_i32_47 : BitVec 32 := 0#32
  let c1_i32_49 : BitVec 32 := 1#32
  let arg8 : BitVec 32 := Scf.iv c0_i32_47 c1_i32_49 k0_t2
  let v209 : Index := Scalar.indexCast arg8
  let c16 : Index := 16#32
  ![1, v209.toNat, 16]
def k0_off12 (k0_t2 : Fin k0_t2_loop.trips) : Fin 3 → Nat :=
  let c1_i32_208 : BitVec 32 := 1#32
  let v213 : Index := Scalar.indexCast c1_i32_208
  let c0_i32_47 : BitVec 32 := 0#32
  let c1_i32_49 : BitVec 32 := 1#32
  let arg8 : BitVec 32 := Scf.iv c0_i32_47 c1_i32_49 k0_t2
  let v214 : Index := Scalar.indexCast arg8
  let c32 : Index := 32#32
  ![1, v214.toNat, 32]
def k0_off13 (k0_t2 : Fin k0_t2_loop.trips) : Fin 3 → Nat :=
  let c1_i32_209 : BitVec 32 := 1#32
  let v218 : Index := Scalar.indexCast c1_i32_209
  let c0_i32_47 : BitVec 32 := 0#32
  let c1_i32_49 : BitVec 32 := 1#32
  let arg8 : BitVec 32 := Scf.iv c0_i32_47 c1_i32_49 k0_t2
  let v219 : Index := Scalar.indexCast arg8
  let c48 : Index := 48#32
  ![1, v219.toNat, 48]
def k0_off14 (k0_t2 : Fin k0_t2_loop.trips) : Fin 3 → Nat :=
  let c1_i32_210 : BitVec 32 := 1#32
  let v223 : Index := Scalar.indexCast c1_i32_210
  let c0_i32_47 : BitVec 32 := 0#32
  let c1_i32_49 : BitVec 32 := 1#32
  let arg8 : BitVec 32 := Scf.iv c0_i32_47 c1_i32_49 k0_t2
  let v224 : Index := Scalar.indexCast arg8
  let c64 : Index := 64#32
  ![1, v224.toNat, 64]
def k0_off15 (k0_t2 : Fin k0_t2_loop.trips) : Fin 3 → Nat :=
  let c1_i32_211 : BitVec 32 := 1#32
  let v228 : Index := Scalar.indexCast c1_i32_211
  let c0_i32_47 : BitVec 32 := 0#32
  let c1_i32_49 : BitVec 32 := 1#32
  let arg8 : BitVec 32 := Scf.iv c0_i32_47 c1_i32_49 k0_t2
  let v229 : Index := Scalar.indexCast arg8
  let c80 : Index := 80#32
  ![1, v229.toNat, 80]
def k0_off16 (k0_t2 : Fin k0_t2_loop.trips) : Fin 3 → Nat :=
  let c1_i32_212 : BitVec 32 := 1#32
  let v233 : Index := Scalar.indexCast c1_i32_212
  let c0_i32_47 : BitVec 32 := 0#32
  let c1_i32_49 : BitVec 32 := 1#32
  let arg8 : BitVec 32 := Scf.iv c0_i32_47 c1_i32_49 k0_t2
  let v234 : Index := Scalar.indexCast arg8
  let c96 : Index := 96#32
  ![1, v234.toNat, 96]
def k0_off17 (k0_t2 : Fin k0_t2_loop.trips) : Fin 3 → Nat :=
  let c1_i32_213 : BitVec 32 := 1#32
  let v238 : Index := Scalar.indexCast c1_i32_213
  let c0_i32_47 : BitVec 32 := 0#32
  let c1_i32_49 : BitVec 32 := 1#32
  let arg8 : BitVec 32 := Scf.iv c0_i32_47 c1_i32_49 k0_t2
  let v239 : Index := Scalar.indexCast arg8
  let c112 : Index := 112#32
  ![1, v239.toNat, 112]
@[reducible] def k0_t3_loop : Scf.Loop 32 :=
  let c0_i32_66 : BitVec 32 := 0#32
  let c400_i32_67 : BitVec 32 := 400#32
  let v64 : BitVec 32 := Scalar.addi c0_i32_66 c400_i32_67
  let c1_i32_68 : BitVec 32 := 1#32
  ⟨c0_i32_66, v64, c1_i32_68⟩
def k0_off18 (k0_t3 : Fin k0_t3_loop.trips) : Fin 3 → Nat :=
  let c0_i32_205 : BitVec 32 := 0#32
  let v203 : Index := Scalar.indexCast c0_i32_205
  let c0_i32_66 : BitVec 32 := 0#32
  let c1_i32_68 : BitVec 32 := 1#32
  let arg8 : BitVec 32 := Scf.iv c0_i32_66 c1_i32_68 k0_t3
  let v204 : Index := Scalar.indexCast arg8
  let c0_206 : Index := 0#32
  ![0, v204.toNat, 0]
def k0_off19 (k0_t3 : Fin k0_t3_loop.trips) : Fin 3 → Nat :=
  let c0_i32_207 : BitVec 32 := 0#32
  let v208 : Index := Scalar.indexCast c0_i32_207
  let c0_i32_66 : BitVec 32 := 0#32
  let c1_i32_68 : BitVec 32 := 1#32
  let arg8 : BitVec 32 := Scf.iv c0_i32_66 c1_i32_68 k0_t3
  let v209 : Index := Scalar.indexCast arg8
  let c16 : Index := 16#32
  ![0, v209.toNat, 16]
def k0_off20 (k0_t3 : Fin k0_t3_loop.trips) : Fin 3 → Nat :=
  let c0_i32_208 : BitVec 32 := 0#32
  let v213 : Index := Scalar.indexCast c0_i32_208
  let c0_i32_66 : BitVec 32 := 0#32
  let c1_i32_68 : BitVec 32 := 1#32
  let arg8 : BitVec 32 := Scf.iv c0_i32_66 c1_i32_68 k0_t3
  let v214 : Index := Scalar.indexCast arg8
  let c32 : Index := 32#32
  ![0, v214.toNat, 32]
def k0_off21 (k0_t3 : Fin k0_t3_loop.trips) : Fin 3 → Nat :=
  let c0_i32_209 : BitVec 32 := 0#32
  let v218 : Index := Scalar.indexCast c0_i32_209
  let c0_i32_66 : BitVec 32 := 0#32
  let c1_i32_68 : BitVec 32 := 1#32
  let arg8 : BitVec 32 := Scf.iv c0_i32_66 c1_i32_68 k0_t3
  let v219 : Index := Scalar.indexCast arg8
  let c48 : Index := 48#32
  ![0, v219.toNat, 48]
def k0_off22 (k0_t3 : Fin k0_t3_loop.trips) : Fin 3 → Nat :=
  let c0_i32_210 : BitVec 32 := 0#32
  let v223 : Index := Scalar.indexCast c0_i32_210
  let c0_i32_66 : BitVec 32 := 0#32
  let c1_i32_68 : BitVec 32 := 1#32
  let arg8 : BitVec 32 := Scf.iv c0_i32_66 c1_i32_68 k0_t3
  let v224 : Index := Scalar.indexCast arg8
  let c64 : Index := 64#32
  ![0, v224.toNat, 64]
def k0_off23 (k0_t3 : Fin k0_t3_loop.trips) : Fin 3 → Nat :=
  let c0_i32_211 : BitVec 32 := 0#32
  let v228 : Index := Scalar.indexCast c0_i32_211
  let c0_i32_66 : BitVec 32 := 0#32
  let c1_i32_68 : BitVec 32 := 1#32
  let arg8 : BitVec 32 := Scf.iv c0_i32_66 c1_i32_68 k0_t3
  let v229 : Index := Scalar.indexCast arg8
  let c80 : Index := 80#32
  ![0, v229.toNat, 80]
def k0_off24 (k0_t3 : Fin k0_t3_loop.trips) : Fin 3 → Nat :=
  let c0_i32_212 : BitVec 32 := 0#32
  let v233 : Index := Scalar.indexCast c0_i32_212
  let c0_i32_66 : BitVec 32 := 0#32
  let c1_i32_68 : BitVec 32 := 1#32
  let arg8 : BitVec 32 := Scf.iv c0_i32_66 c1_i32_68 k0_t3
  let v234 : Index := Scalar.indexCast arg8
  let c96 : Index := 96#32
  ![0, v234.toNat, 96]
def k0_off25 (k0_t3 : Fin k0_t3_loop.trips) : Fin 3 → Nat :=
  let c0_i32_213 : BitVec 32 := 0#32
  let v238 : Index := Scalar.indexCast c0_i32_213
  let c0_i32_66 : BitVec 32 := 0#32
  let c1_i32_68 : BitVec 32 := 1#32
  let arg8 : BitVec 32 := Scf.iv c0_i32_66 c1_i32_68 k0_t3
  let v239 : Index := Scalar.indexCast arg8
  let c112 : Index := 112#32
  ![0, v239.toNat, 112]
@[reducible] def k0_t4_loop : Scf.Loop 32 :=
  let c0_i32_85 : BitVec 32 := 0#32
  let c400_i32_86 : BitVec 32 := 400#32
  let v80 : BitVec 32 := Scalar.addi c0_i32_85 c400_i32_86
  let c1_i32_87 : BitVec 32 := 1#32
  ⟨c0_i32_85, v80, c1_i32_87⟩
def k0_off26 (k0_t4 : Fin k0_t4_loop.trips) : Fin 3 → Nat :=
  let c1_i32_205 : BitVec 32 := 1#32
  let v203 : Index := Scalar.indexCast c1_i32_205
  let c0_i32_85 : BitVec 32 := 0#32
  let c1_i32_87 : BitVec 32 := 1#32
  let arg8 : BitVec 32 := Scf.iv c0_i32_85 c1_i32_87 k0_t4
  let v204 : Index := Scalar.indexCast arg8
  let c0_206 : Index := 0#32
  ![1, v204.toNat, 0]
def k0_off27 (k0_t4 : Fin k0_t4_loop.trips) : Fin 3 → Nat :=
  let c1_i32_207 : BitVec 32 := 1#32
  let v208 : Index := Scalar.indexCast c1_i32_207
  let c0_i32_85 : BitVec 32 := 0#32
  let c1_i32_87 : BitVec 32 := 1#32
  let arg8 : BitVec 32 := Scf.iv c0_i32_85 c1_i32_87 k0_t4
  let v209 : Index := Scalar.indexCast arg8
  let c16 : Index := 16#32
  ![1, v209.toNat, 16]
def k0_off28 (k0_t4 : Fin k0_t4_loop.trips) : Fin 3 → Nat :=
  let c1_i32_208 : BitVec 32 := 1#32
  let v213 : Index := Scalar.indexCast c1_i32_208
  let c0_i32_85 : BitVec 32 := 0#32
  let c1_i32_87 : BitVec 32 := 1#32
  let arg8 : BitVec 32 := Scf.iv c0_i32_85 c1_i32_87 k0_t4
  let v214 : Index := Scalar.indexCast arg8
  let c32 : Index := 32#32
  ![1, v214.toNat, 32]
def k0_off29 (k0_t4 : Fin k0_t4_loop.trips) : Fin 3 → Nat :=
  let c1_i32_209 : BitVec 32 := 1#32
  let v218 : Index := Scalar.indexCast c1_i32_209
  let c0_i32_85 : BitVec 32 := 0#32
  let c1_i32_87 : BitVec 32 := 1#32
  let arg8 : BitVec 32 := Scf.iv c0_i32_85 c1_i32_87 k0_t4
  let v219 : Index := Scalar.indexCast arg8
  let c48 : Index := 48#32
  ![1, v219.toNat, 48]
def k0_off30 (k0_t4 : Fin k0_t4_loop.trips) : Fin 3 → Nat :=
  let c1_i32_210 : BitVec 32 := 1#32
  let v223 : Index := Scalar.indexCast c1_i32_210
  let c0_i32_85 : BitVec 32 := 0#32
  let c1_i32_87 : BitVec 32 := 1#32
  let arg8 : BitVec 32 := Scf.iv c0_i32_85 c1_i32_87 k0_t4
  let v224 : Index := Scalar.indexCast arg8
  let c64 : Index := 64#32
  ![1, v224.toNat, 64]
def k0_off31 (k0_t4 : Fin k0_t4_loop.trips) : Fin 3 → Nat :=
  let c1_i32_211 : BitVec 32 := 1#32
  let v228 : Index := Scalar.indexCast c1_i32_211
  let c0_i32_85 : BitVec 32 := 0#32
  let c1_i32_87 : BitVec 32 := 1#32
  let arg8 : BitVec 32 := Scf.iv c0_i32_85 c1_i32_87 k0_t4
  let v229 : Index := Scalar.indexCast arg8
  let c80 : Index := 80#32
  ![1, v229.toNat, 80]
def k0_off32 (k0_t4 : Fin k0_t4_loop.trips) : Fin 3 → Nat :=
  let c1_i32_212 : BitVec 32 := 1#32
  let v233 : Index := Scalar.indexCast c1_i32_212
  let c0_i32_85 : BitVec 32 := 0#32
  let c1_i32_87 : BitVec 32 := 1#32
  let arg8 : BitVec 32 := Scf.iv c0_i32_85 c1_i32_87 k0_t4
  let v234 : Index := Scalar.indexCast arg8
  let c96 : Index := 96#32
  ![1, v234.toNat, 96]
def k0_off33 (k0_t4 : Fin k0_t4_loop.trips) : Fin 3 → Nat :=
  let c1_i32_213 : BitVec 32 := 1#32
  let v238 : Index := Scalar.indexCast c1_i32_213
  let c0_i32_85 : BitVec 32 := 0#32
  let c1_i32_87 : BitVec 32 := 1#32
  let arg8 : BitVec 32 := Scf.iv c0_i32_85 c1_i32_87 k0_t4
  let v239 : Index := Scalar.indexCast arg8
  let c112 : Index := 112#32
  ![1, v239.toNat, 112]
@[reducible] def k0_t5_loop : Scf.Loop 32 :=
  let c0_i32_104 : BitVec 32 := 0#32
  let c400_i32_105 : BitVec 32 := 400#32
  let v96 : BitVec 32 := Scalar.addi c0_i32_104 c400_i32_105
  let c1_i32_106 : BitVec 32 := 1#32
  ⟨c0_i32_104, v96, c1_i32_106⟩
def k0_off34 (k0_t5 : Fin k0_t5_loop.trips) : Fin 3 → Nat :=
  let c0_i32_205 : BitVec 32 := 0#32
  let v203 : Index := Scalar.indexCast c0_i32_205
  let c0_i32_104 : BitVec 32 := 0#32
  let c1_i32_106 : BitVec 32 := 1#32
  let arg8 : BitVec 32 := Scf.iv c0_i32_104 c1_i32_106 k0_t5
  let v204 : Index := Scalar.indexCast arg8
  let c0_206 : Index := 0#32
  ![0, v204.toNat, 0]
def k0_off35 (k0_t5 : Fin k0_t5_loop.trips) : Fin 3 → Nat :=
  let c0_i32_207 : BitVec 32 := 0#32
  let v208 : Index := Scalar.indexCast c0_i32_207
  let c0_i32_104 : BitVec 32 := 0#32
  let c1_i32_106 : BitVec 32 := 1#32
  let arg8 : BitVec 32 := Scf.iv c0_i32_104 c1_i32_106 k0_t5
  let v209 : Index := Scalar.indexCast arg8
  let c16 : Index := 16#32
  ![0, v209.toNat, 16]
def k0_off36 (k0_t5 : Fin k0_t5_loop.trips) : Fin 3 → Nat :=
  let c0_i32_208 : BitVec 32 := 0#32
  let v213 : Index := Scalar.indexCast c0_i32_208
  let c0_i32_104 : BitVec 32 := 0#32
  let c1_i32_106 : BitVec 32 := 1#32
  let arg8 : BitVec 32 := Scf.iv c0_i32_104 c1_i32_106 k0_t5
  let v214 : Index := Scalar.indexCast arg8
  let c32 : Index := 32#32
  ![0, v214.toNat, 32]
def k0_off37 (k0_t5 : Fin k0_t5_loop.trips) : Fin 3 → Nat :=
  let c0_i32_209 : BitVec 32 := 0#32
  let v218 : Index := Scalar.indexCast c0_i32_209
  let c0_i32_104 : BitVec 32 := 0#32
  let c1_i32_106 : BitVec 32 := 1#32
  let arg8 : BitVec 32 := Scf.iv c0_i32_104 c1_i32_106 k0_t5
  let v219 : Index := Scalar.indexCast arg8
  let c48 : Index := 48#32
  ![0, v219.toNat, 48]
def k0_off38 (k0_t5 : Fin k0_t5_loop.trips) : Fin 3 → Nat :=
  let c0_i32_210 : BitVec 32 := 0#32
  let v223 : Index := Scalar.indexCast c0_i32_210
  let c0_i32_104 : BitVec 32 := 0#32
  let c1_i32_106 : BitVec 32 := 1#32
  let arg8 : BitVec 32 := Scf.iv c0_i32_104 c1_i32_106 k0_t5
  let v224 : Index := Scalar.indexCast arg8
  let c64 : Index := 64#32
  ![0, v224.toNat, 64]
def k0_off39 (k0_t5 : Fin k0_t5_loop.trips) : Fin 3 → Nat :=
  let c0_i32_211 : BitVec 32 := 0#32
  let v228 : Index := Scalar.indexCast c0_i32_211
  let c0_i32_104 : BitVec 32 := 0#32
  let c1_i32_106 : BitVec 32 := 1#32
  let arg8 : BitVec 32 := Scf.iv c0_i32_104 c1_i32_106 k0_t5
  let v229 : Index := Scalar.indexCast arg8
  let c80 : Index := 80#32
  ![0, v229.toNat, 80]
def k0_off40 (k0_t5 : Fin k0_t5_loop.trips) : Fin 3 → Nat :=
  let c0_i32_212 : BitVec 32 := 0#32
  let v233 : Index := Scalar.indexCast c0_i32_212
  let c0_i32_104 : BitVec 32 := 0#32
  let c1_i32_106 : BitVec 32 := 1#32
  let arg8 : BitVec 32 := Scf.iv c0_i32_104 c1_i32_106 k0_t5
  let v234 : Index := Scalar.indexCast arg8
  let c96 : Index := 96#32
  ![0, v234.toNat, 96]
def k0_off41 (k0_t5 : Fin k0_t5_loop.trips) : Fin 3 → Nat :=
  let c0_i32_213 : BitVec 32 := 0#32
  let v238 : Index := Scalar.indexCast c0_i32_213
  let c0_i32_104 : BitVec 32 := 0#32
  let c1_i32_106 : BitVec 32 := 1#32
  let arg8 : BitVec 32 := Scf.iv c0_i32_104 c1_i32_106 k0_t5
  let v239 : Index := Scalar.indexCast arg8
  let c112 : Index := 112#32
  ![0, v239.toNat, 112]
@[reducible] def k0_t6_loop : Scf.Loop 32 :=
  let c0_i32_123 : BitVec 32 := 0#32
  let c400_i32_124 : BitVec 32 := 400#32
  let v112 : BitVec 32 := Scalar.addi c0_i32_123 c400_i32_124
  let c1_i32_125 : BitVec 32 := 1#32
  ⟨c0_i32_123, v112, c1_i32_125⟩
def k0_off42 (k0_t6 : Fin k0_t6_loop.trips) : Fin 3 → Nat :=
  let c1_i32_205 : BitVec 32 := 1#32
  let v203 : Index := Scalar.indexCast c1_i32_205
  let c0_i32_123 : BitVec 32 := 0#32
  let c1_i32_125 : BitVec 32 := 1#32
  let arg8 : BitVec 32 := Scf.iv c0_i32_123 c1_i32_125 k0_t6
  let v204 : Index := Scalar.indexCast arg8
  let c0_206 : Index := 0#32
  ![1, v204.toNat, 0]
def k0_off43 (k0_t6 : Fin k0_t6_loop.trips) : Fin 3 → Nat :=
  let c1_i32_207 : BitVec 32 := 1#32
  let v208 : Index := Scalar.indexCast c1_i32_207
  let c0_i32_123 : BitVec 32 := 0#32
  let c1_i32_125 : BitVec 32 := 1#32
  let arg8 : BitVec 32 := Scf.iv c0_i32_123 c1_i32_125 k0_t6
  let v209 : Index := Scalar.indexCast arg8
  let c16 : Index := 16#32
  ![1, v209.toNat, 16]
def k0_off44 (k0_t6 : Fin k0_t6_loop.trips) : Fin 3 → Nat :=
  let c1_i32_208 : BitVec 32 := 1#32
  let v213 : Index := Scalar.indexCast c1_i32_208
  let c0_i32_123 : BitVec 32 := 0#32
  let c1_i32_125 : BitVec 32 := 1#32
  let arg8 : BitVec 32 := Scf.iv c0_i32_123 c1_i32_125 k0_t6
  let v214 : Index := Scalar.indexCast arg8
  let c32 : Index := 32#32
  ![1, v214.toNat, 32]
def k0_off45 (k0_t6 : Fin k0_t6_loop.trips) : Fin 3 → Nat :=
  let c1_i32_209 : BitVec 32 := 1#32
  let v218 : Index := Scalar.indexCast c1_i32_209
  let c0_i32_123 : BitVec 32 := 0#32
  let c1_i32_125 : BitVec 32 := 1#32
  let arg8 : BitVec 32 := Scf.iv c0_i32_123 c1_i32_125 k0_t6
  let v219 : Index := Scalar.indexCast arg8
  let c48 : Index := 48#32
  ![1, v219.toNat, 48]
def k0_off46 (k0_t6 : Fin k0_t6_loop.trips) : Fin 3 → Nat :=
  let c1_i32_210 : BitVec 32 := 1#32
  let v223 : Index := Scalar.indexCast c1_i32_210
  let c0_i32_123 : BitVec 32 := 0#32
  let c1_i32_125 : BitVec 32 := 1#32
  let arg8 : BitVec 32 := Scf.iv c0_i32_123 c1_i32_125 k0_t6
  let v224 : Index := Scalar.indexCast arg8
  let c64 : Index := 64#32
  ![1, v224.toNat, 64]
def k0_off47 (k0_t6 : Fin k0_t6_loop.trips) : Fin 3 → Nat :=
  let c1_i32_211 : BitVec 32 := 1#32
  let v228 : Index := Scalar.indexCast c1_i32_211
  let c0_i32_123 : BitVec 32 := 0#32
  let c1_i32_125 : BitVec 32 := 1#32
  let arg8 : BitVec 32 := Scf.iv c0_i32_123 c1_i32_125 k0_t6
  let v229 : Index := Scalar.indexCast arg8
  let c80 : Index := 80#32
  ![1, v229.toNat, 80]
def k0_off48 (k0_t6 : Fin k0_t6_loop.trips) : Fin 3 → Nat :=
  let c1_i32_212 : BitVec 32 := 1#32
  let v233 : Index := Scalar.indexCast c1_i32_212
  let c0_i32_123 : BitVec 32 := 0#32
  let c1_i32_125 : BitVec 32 := 1#32
  let arg8 : BitVec 32 := Scf.iv c0_i32_123 c1_i32_125 k0_t6
  let v234 : Index := Scalar.indexCast arg8
  let c96 : Index := 96#32
  ![1, v234.toNat, 96]
def k0_off49 (k0_t6 : Fin k0_t6_loop.trips) : Fin 3 → Nat :=
  let c1_i32_213 : BitVec 32 := 1#32
  let v238 : Index := Scalar.indexCast c1_i32_213
  let c0_i32_123 : BitVec 32 := 0#32
  let c1_i32_125 : BitVec 32 := 1#32
  let arg8 : BitVec 32 := Scf.iv c0_i32_123 c1_i32_125 k0_t6
  let v239 : Index := Scalar.indexCast arg8
  let c112 : Index := 112#32
  ![1, v239.toNat, 112]
@[reducible] def k0_t7_loop : Scf.Loop 32 :=
  let c0_i32_142 : BitVec 32 := 0#32
  let c400_i32_143 : BitVec 32 := 400#32
  let v128 : BitVec 32 := Scalar.addi c0_i32_142 c400_i32_143
  let c1_i32_144 : BitVec 32 := 1#32
  ⟨c0_i32_142, v128, c1_i32_144⟩
def k0_off50 (k0_t7 : Fin k0_t7_loop.trips) : Fin 3 → Nat :=
  let c0_i32_205 : BitVec 32 := 0#32
  let v203 : Index := Scalar.indexCast c0_i32_205
  let c0_i32_142 : BitVec 32 := 0#32
  let c1_i32_144 : BitVec 32 := 1#32
  let arg8 : BitVec 32 := Scf.iv c0_i32_142 c1_i32_144 k0_t7
  let v204 : Index := Scalar.indexCast arg8
  let c0_206 : Index := 0#32
  ![0, v204.toNat, 0]
def k0_off51 (k0_t7 : Fin k0_t7_loop.trips) : Fin 3 → Nat :=
  let c0_i32_207 : BitVec 32 := 0#32
  let v208 : Index := Scalar.indexCast c0_i32_207
  let c0_i32_142 : BitVec 32 := 0#32
  let c1_i32_144 : BitVec 32 := 1#32
  let arg8 : BitVec 32 := Scf.iv c0_i32_142 c1_i32_144 k0_t7
  let v209 : Index := Scalar.indexCast arg8
  let c16 : Index := 16#32
  ![0, v209.toNat, 16]
def k0_off52 (k0_t7 : Fin k0_t7_loop.trips) : Fin 3 → Nat :=
  let c0_i32_208 : BitVec 32 := 0#32
  let v213 : Index := Scalar.indexCast c0_i32_208
  let c0_i32_142 : BitVec 32 := 0#32
  let c1_i32_144 : BitVec 32 := 1#32
  let arg8 : BitVec 32 := Scf.iv c0_i32_142 c1_i32_144 k0_t7
  let v214 : Index := Scalar.indexCast arg8
  let c32 : Index := 32#32
  ![0, v214.toNat, 32]
def k0_off53 (k0_t7 : Fin k0_t7_loop.trips) : Fin 3 → Nat :=
  let c0_i32_209 : BitVec 32 := 0#32
  let v218 : Index := Scalar.indexCast c0_i32_209
  let c0_i32_142 : BitVec 32 := 0#32
  let c1_i32_144 : BitVec 32 := 1#32
  let arg8 : BitVec 32 := Scf.iv c0_i32_142 c1_i32_144 k0_t7
  let v219 : Index := Scalar.indexCast arg8
  let c48 : Index := 48#32
  ![0, v219.toNat, 48]
def k0_off54 (k0_t7 : Fin k0_t7_loop.trips) : Fin 3 → Nat :=
  let c0_i32_210 : BitVec 32 := 0#32
  let v223 : Index := Scalar.indexCast c0_i32_210
  let c0_i32_142 : BitVec 32 := 0#32
  let c1_i32_144 : BitVec 32 := 1#32
  let arg8 : BitVec 32 := Scf.iv c0_i32_142 c1_i32_144 k0_t7
  let v224 : Index := Scalar.indexCast arg8
  let c64 : Index := 64#32
  ![0, v224.toNat, 64]
def k0_off55 (k0_t7 : Fin k0_t7_loop.trips) : Fin 3 → Nat :=
  let c0_i32_211 : BitVec 32 := 0#32
  let v228 : Index := Scalar.indexCast c0_i32_211
  let c0_i32_142 : BitVec 32 := 0#32
  let c1_i32_144 : BitVec 32 := 1#32
  let arg8 : BitVec 32 := Scf.iv c0_i32_142 c1_i32_144 k0_t7
  let v229 : Index := Scalar.indexCast arg8
  let c80 : Index := 80#32
  ![0, v229.toNat, 80]
def k0_off56 (k0_t7 : Fin k0_t7_loop.trips) : Fin 3 → Nat :=
  let c0_i32_212 : BitVec 32 := 0#32
  let v233 : Index := Scalar.indexCast c0_i32_212
  let c0_i32_142 : BitVec 32 := 0#32
  let c1_i32_144 : BitVec 32 := 1#32
  let arg8 : BitVec 32 := Scf.iv c0_i32_142 c1_i32_144 k0_t7
  let v234 : Index := Scalar.indexCast arg8
  let c96 : Index := 96#32
  ![0, v234.toNat, 96]
def k0_off57 (k0_t7 : Fin k0_t7_loop.trips) : Fin 3 → Nat :=
  let c0_i32_213 : BitVec 32 := 0#32
  let v238 : Index := Scalar.indexCast c0_i32_213
  let c0_i32_142 : BitVec 32 := 0#32
  let c1_i32_144 : BitVec 32 := 1#32
  let arg8 : BitVec 32 := Scf.iv c0_i32_142 c1_i32_144 k0_t7
  let v239 : Index := Scalar.indexCast arg8
  let c112 : Index := 112#32
  ![0, v239.toNat, 112]
@[reducible] def k0_t8_loop : Scf.Loop 32 :=
  let c0_i32_161 : BitVec 32 := 0#32
  let c400_i32_162 : BitVec 32 := 400#32
  let v144 : BitVec 32 := Scalar.addi c0_i32_161 c400_i32_162
  let c1_i32_163 : BitVec 32 := 1#32
  ⟨c0_i32_161, v144, c1_i32_163⟩
def k0_off58 (k0_t8 : Fin k0_t8_loop.trips) : Fin 3 → Nat :=
  let c1_i32_205 : BitVec 32 := 1#32
  let v203 : Index := Scalar.indexCast c1_i32_205
  let c0_i32_161 : BitVec 32 := 0#32
  let c1_i32_163 : BitVec 32 := 1#32
  let arg8 : BitVec 32 := Scf.iv c0_i32_161 c1_i32_163 k0_t8
  let v204 : Index := Scalar.indexCast arg8
  let c0_206 : Index := 0#32
  ![1, v204.toNat, 0]
def k0_off59 (k0_t8 : Fin k0_t8_loop.trips) : Fin 3 → Nat :=
  let c1_i32_207 : BitVec 32 := 1#32
  let v208 : Index := Scalar.indexCast c1_i32_207
  let c0_i32_161 : BitVec 32 := 0#32
  let c1_i32_163 : BitVec 32 := 1#32
  let arg8 : BitVec 32 := Scf.iv c0_i32_161 c1_i32_163 k0_t8
  let v209 : Index := Scalar.indexCast arg8
  let c16 : Index := 16#32
  ![1, v209.toNat, 16]
def k0_off60 (k0_t8 : Fin k0_t8_loop.trips) : Fin 3 → Nat :=
  let c1_i32_208 : BitVec 32 := 1#32
  let v213 : Index := Scalar.indexCast c1_i32_208
  let c0_i32_161 : BitVec 32 := 0#32
  let c1_i32_163 : BitVec 32 := 1#32
  let arg8 : BitVec 32 := Scf.iv c0_i32_161 c1_i32_163 k0_t8
  let v214 : Index := Scalar.indexCast arg8
  let c32 : Index := 32#32
  ![1, v214.toNat, 32]
def k0_off61 (k0_t8 : Fin k0_t8_loop.trips) : Fin 3 → Nat :=
  let c1_i32_209 : BitVec 32 := 1#32
  let v218 : Index := Scalar.indexCast c1_i32_209
  let c0_i32_161 : BitVec 32 := 0#32
  let c1_i32_163 : BitVec 32 := 1#32
  let arg8 : BitVec 32 := Scf.iv c0_i32_161 c1_i32_163 k0_t8
  let v219 : Index := Scalar.indexCast arg8
  let c48 : Index := 48#32
  ![1, v219.toNat, 48]
def k0_off62 (k0_t8 : Fin k0_t8_loop.trips) : Fin 3 → Nat :=
  let c1_i32_210 : BitVec 32 := 1#32
  let v223 : Index := Scalar.indexCast c1_i32_210
  let c0_i32_161 : BitVec 32 := 0#32
  let c1_i32_163 : BitVec 32 := 1#32
  let arg8 : BitVec 32 := Scf.iv c0_i32_161 c1_i32_163 k0_t8
  let v224 : Index := Scalar.indexCast arg8
  let c64 : Index := 64#32
  ![1, v224.toNat, 64]
def k0_off63 (k0_t8 : Fin k0_t8_loop.trips) : Fin 3 → Nat :=
  let c1_i32_211 : BitVec 32 := 1#32
  let v228 : Index := Scalar.indexCast c1_i32_211
  let c0_i32_161 : BitVec 32 := 0#32
  let c1_i32_163 : BitVec 32 := 1#32
  let arg8 : BitVec 32 := Scf.iv c0_i32_161 c1_i32_163 k0_t8
  let v229 : Index := Scalar.indexCast arg8
  let c80 : Index := 80#32
  ![1, v229.toNat, 80]
def k0_off64 (k0_t8 : Fin k0_t8_loop.trips) : Fin 3 → Nat :=
  let c1_i32_212 : BitVec 32 := 1#32
  let v233 : Index := Scalar.indexCast c1_i32_212
  let c0_i32_161 : BitVec 32 := 0#32
  let c1_i32_163 : BitVec 32 := 1#32
  let arg8 : BitVec 32 := Scf.iv c0_i32_161 c1_i32_163 k0_t8
  let v234 : Index := Scalar.indexCast arg8
  let c96 : Index := 96#32
  ![1, v234.toNat, 96]
def k0_off65 (k0_t8 : Fin k0_t8_loop.trips) : Fin 3 → Nat :=
  let c1_i32_213 : BitVec 32 := 1#32
  let v238 : Index := Scalar.indexCast c1_i32_213
  let c0_i32_161 : BitVec 32 := 0#32
  let c1_i32_163 : BitVec 32 := 1#32
  let arg8 : BitVec 32 := Scf.iv c0_i32_161 c1_i32_163 k0_t8
  let v239 : Index := Scalar.indexCast arg8
  let c112 : Index := 112#32
  ![1, v239.toNat, 112]
@[reducible] def k0_t9_loop : Scf.Loop 32 :=
  let c0_i32_180 : BitVec 32 := 0#32
  let c400_i32_181 : BitVec 32 := 400#32
  let v160 : BitVec 32 := Scalar.addi c0_i32_180 c400_i32_181
  let c1_i32_182 : BitVec 32 := 1#32
  ⟨c0_i32_180, v160, c1_i32_182⟩
def k0_off66 (k0_t9 : Fin k0_t9_loop.trips) : Fin 3 → Nat :=
  let c0_i32_205 : BitVec 32 := 0#32
  let v203 : Index := Scalar.indexCast c0_i32_205
  let c0_i32_180 : BitVec 32 := 0#32
  let c1_i32_182 : BitVec 32 := 1#32
  let arg8 : BitVec 32 := Scf.iv c0_i32_180 c1_i32_182 k0_t9
  let v204 : Index := Scalar.indexCast arg8
  let c0_206 : Index := 0#32
  ![0, v204.toNat, 0]
def k0_off67 (k0_t9 : Fin k0_t9_loop.trips) : Fin 3 → Nat :=
  let c0_i32_207 : BitVec 32 := 0#32
  let v208 : Index := Scalar.indexCast c0_i32_207
  let c0_i32_180 : BitVec 32 := 0#32
  let c1_i32_182 : BitVec 32 := 1#32
  let arg8 : BitVec 32 := Scf.iv c0_i32_180 c1_i32_182 k0_t9
  let v209 : Index := Scalar.indexCast arg8
  let c16 : Index := 16#32
  ![0, v209.toNat, 16]
def k0_off68 (k0_t9 : Fin k0_t9_loop.trips) : Fin 3 → Nat :=
  let c0_i32_208 : BitVec 32 := 0#32
  let v213 : Index := Scalar.indexCast c0_i32_208
  let c0_i32_180 : BitVec 32 := 0#32
  let c1_i32_182 : BitVec 32 := 1#32
  let arg8 : BitVec 32 := Scf.iv c0_i32_180 c1_i32_182 k0_t9
  let v214 : Index := Scalar.indexCast arg8
  let c32 : Index := 32#32
  ![0, v214.toNat, 32]
def k0_off69 (k0_t9 : Fin k0_t9_loop.trips) : Fin 3 → Nat :=
  let c0_i32_209 : BitVec 32 := 0#32
  let v218 : Index := Scalar.indexCast c0_i32_209
  let c0_i32_180 : BitVec 32 := 0#32
  let c1_i32_182 : BitVec 32 := 1#32
  let arg8 : BitVec 32 := Scf.iv c0_i32_180 c1_i32_182 k0_t9
  let v219 : Index := Scalar.indexCast arg8
  let c48 : Index := 48#32
  ![0, v219.toNat, 48]
def k0_off70 (k0_t9 : Fin k0_t9_loop.trips) : Fin 3 → Nat :=
  let c0_i32_210 : BitVec 32 := 0#32
  let v223 : Index := Scalar.indexCast c0_i32_210
  let c0_i32_180 : BitVec 32 := 0#32
  let c1_i32_182 : BitVec 32 := 1#32
  let arg8 : BitVec 32 := Scf.iv c0_i32_180 c1_i32_182 k0_t9
  let v224 : Index := Scalar.indexCast arg8
  let c64 : Index := 64#32
  ![0, v224.toNat, 64]
def k0_off71 (k0_t9 : Fin k0_t9_loop.trips) : Fin 3 → Nat :=
  let c0_i32_211 : BitVec 32 := 0#32
  let v228 : Index := Scalar.indexCast c0_i32_211
  let c0_i32_180 : BitVec 32 := 0#32
  let c1_i32_182 : BitVec 32 := 1#32
  let arg8 : BitVec 32 := Scf.iv c0_i32_180 c1_i32_182 k0_t9
  let v229 : Index := Scalar.indexCast arg8
  let c80 : Index := 80#32
  ![0, v229.toNat, 80]
def k0_off72 (k0_t9 : Fin k0_t9_loop.trips) : Fin 3 → Nat :=
  let c0_i32_212 : BitVec 32 := 0#32
  let v233 : Index := Scalar.indexCast c0_i32_212
  let c0_i32_180 : BitVec 32 := 0#32
  let c1_i32_182 : BitVec 32 := 1#32
  let arg8 : BitVec 32 := Scf.iv c0_i32_180 c1_i32_182 k0_t9
  let v234 : Index := Scalar.indexCast arg8
  let c96 : Index := 96#32
  ![0, v234.toNat, 96]
def k0_off73 (k0_t9 : Fin k0_t9_loop.trips) : Fin 3 → Nat :=
  let c0_i32_213 : BitVec 32 := 0#32
  let v238 : Index := Scalar.indexCast c0_i32_213
  let c0_i32_180 : BitVec 32 := 0#32
  let c1_i32_182 : BitVec 32 := 1#32
  let arg8 : BitVec 32 := Scf.iv c0_i32_180 c1_i32_182 k0_t9
  let v239 : Index := Scalar.indexCast arg8
  let c112 : Index := 112#32
  ![0, v239.toNat, 112]
@[reducible] def k0_t10_loop : Scf.Loop 32 :=
  let c0_i32_192 : BitVec 32 := 0#32
  let c400_i32_193 : BitVec 32 := 400#32
  let v169 : BitVec 32 := Scalar.addi c0_i32_192 c400_i32_193
  let c1_i32_194 : BitVec 32 := 1#32
  ⟨c0_i32_192, v169, c1_i32_194⟩
def k0_off74 (k0_t10 : Fin k0_t10_loop.trips) : Fin 3 → Nat :=
  let c1_i32_205 : BitVec 32 := 1#32
  let v203 : Index := Scalar.indexCast c1_i32_205
  let c0_i32_192 : BitVec 32 := 0#32
  let c1_i32_194 : BitVec 32 := 1#32
  let arg8 : BitVec 32 := Scf.iv c0_i32_192 c1_i32_194 k0_t10
  let v204 : Index := Scalar.indexCast arg8
  let c0_206 : Index := 0#32
  ![1, v204.toNat, 0]
def k0_off75 (k0_t10 : Fin k0_t10_loop.trips) : Fin 3 → Nat :=
  let c1_i32_207 : BitVec 32 := 1#32
  let v208 : Index := Scalar.indexCast c1_i32_207
  let c0_i32_192 : BitVec 32 := 0#32
  let c1_i32_194 : BitVec 32 := 1#32
  let arg8 : BitVec 32 := Scf.iv c0_i32_192 c1_i32_194 k0_t10
  let v209 : Index := Scalar.indexCast arg8
  let c16 : Index := 16#32
  ![1, v209.toNat, 16]
def k0_off76 (k0_t10 : Fin k0_t10_loop.trips) : Fin 3 → Nat :=
  let c1_i32_208 : BitVec 32 := 1#32
  let v213 : Index := Scalar.indexCast c1_i32_208
  let c0_i32_192 : BitVec 32 := 0#32
  let c1_i32_194 : BitVec 32 := 1#32
  let arg8 : BitVec 32 := Scf.iv c0_i32_192 c1_i32_194 k0_t10
  let v214 : Index := Scalar.indexCast arg8
  let c32 : Index := 32#32
  ![1, v214.toNat, 32]
def k0_off77 (k0_t10 : Fin k0_t10_loop.trips) : Fin 3 → Nat :=
  let c1_i32_209 : BitVec 32 := 1#32
  let v218 : Index := Scalar.indexCast c1_i32_209
  let c0_i32_192 : BitVec 32 := 0#32
  let c1_i32_194 : BitVec 32 := 1#32
  let arg8 : BitVec 32 := Scf.iv c0_i32_192 c1_i32_194 k0_t10
  let v219 : Index := Scalar.indexCast arg8
  let c48 : Index := 48#32
  ![1, v219.toNat, 48]
def k0_off78 (k0_t10 : Fin k0_t10_loop.trips) : Fin 3 → Nat :=
  let c1_i32_210 : BitVec 32 := 1#32
  let v223 : Index := Scalar.indexCast c1_i32_210
  let c0_i32_192 : BitVec 32 := 0#32
  let c1_i32_194 : BitVec 32 := 1#32
  let arg8 : BitVec 32 := Scf.iv c0_i32_192 c1_i32_194 k0_t10
  let v224 : Index := Scalar.indexCast arg8
  let c64 : Index := 64#32
  ![1, v224.toNat, 64]
def k0_off79 (k0_t10 : Fin k0_t10_loop.trips) : Fin 3 → Nat :=
  let c1_i32_211 : BitVec 32 := 1#32
  let v228 : Index := Scalar.indexCast c1_i32_211
  let c0_i32_192 : BitVec 32 := 0#32
  let c1_i32_194 : BitVec 32 := 1#32
  let arg8 : BitVec 32 := Scf.iv c0_i32_192 c1_i32_194 k0_t10
  let v229 : Index := Scalar.indexCast arg8
  let c80 : Index := 80#32
  ![1, v229.toNat, 80]
def k0_off80 (k0_t10 : Fin k0_t10_loop.trips) : Fin 3 → Nat :=
  let c1_i32_212 : BitVec 32 := 1#32
  let v233 : Index := Scalar.indexCast c1_i32_212
  let c0_i32_192 : BitVec 32 := 0#32
  let c1_i32_194 : BitVec 32 := 1#32
  let arg8 : BitVec 32 := Scf.iv c0_i32_192 c1_i32_194 k0_t10
  let v234 : Index := Scalar.indexCast arg8
  let c96 : Index := 96#32
  ![1, v234.toNat, 96]
def k0_off81 (k0_t10 : Fin k0_t10_loop.trips) : Fin 3 → Nat :=
  let c1_i32_213 : BitVec 32 := 1#32
  let v238 : Index := Scalar.indexCast c1_i32_213
  let c0_i32_192 : BitVec 32 := 0#32
  let c1_i32_194 : BitVec 32 := 1#32
  let arg8 : BitVec 32 := Scf.iv c0_i32_192 c1_i32_194 k0_t10
  let v239 : Index := Scalar.indexCast arg8
  let c112 : Index := 112#32
  ![1, v239.toNat, 112]
def k0_off82 (i : grid0.Coords) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32_205_r0 : BitVec 32 := 0#32
  let c0_i32_206_r0 : BitVec 32 := 0#32
  ![v1.toNat, 0, 0]
abbrev grid1 : Pipeline.Grid := ⟨1, ![10], ![false]⟩

def cc1_transform_0 (i : grid1.Coords) : Fin 2 → Nat :=
  let arg0 : BitVec 32 := BitVec.ofNat 32 (i 0).val
  let c16_i32 : BitVec 32 := 16#32
  let v0 : BitVec 32 := Scalar.addi arg0 c16_i32
  let c0_i32 : BitVec 32 := 0#32
  let c0_i32_0 : BitVec 32 := 0#32
  ![v0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S8000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev grid2 : Pipeline.Grid := ⟨1, ![56], ![false]⟩

@[reducible] def k2_t1_loop : Scf.Loop 32 :=
  let c0_i32_7 : BitVec 32 := 0#32
  let c10_i32 : BitVec 32 := 10#32
  let v13 : BitVec 32 := Scalar.addi c0_i32_7 c10_i32
  let c1_i32 : BitVec 32 := 1#32
  ⟨c0_i32_7, v13, c1_i32⟩
def k2_off1 (k2_t1 : Fin k2_t1_loop.trips) : Fin 2 → Nat :=
  let c0_i32_7 : BitVec 32 := 0#32
  let c1_i32 : BitVec 32 := 1#32
  let arg7 : BitVec 32 := Scf.iv c0_i32_7 c1_i32 k2_t1
  let c200_i32 : BitVec 32 := 200#32
  let v28 : BitVec 32 := Scalar.muli arg7 c200_i32
  let v29 : Index := Scalar.indexCast v28
  let c0_19 : Index := 0#32
  ![v29.toNat, 0]
def k2_cond2 (i : grid2.Coords) : BitVec 1 :=
  let arg0 : BitVec 32 := BitVec.ofNat 32 (i 0).val
  let c55_i32 : BitVec 32 := 55#32
  let v25 : BitVec 1 := Scalar.cmpi .eq arg0 c55_i32
  let v26 : BitVec 32 := Scalar.extui v25
  let c0_i32_18 : BitVec 32 := 0#32
  let v27 : BitVec 1 := Scalar.cmpi .ne v26 c0_i32_18
  v27

def cc2_transform_0 (i : grid2.Coords) : Fin 2 → Nat :=
  let arg0 : BitVec 32 := BitVec.ofNat 32 (i 0).val
  let c104_i32 : BitVec 32 := 104#32
  let v0 : BitVec 32 := Scalar.addi arg0 c104_i32
  let c0_i32 : BitVec 32 := 0#32
  let c0_i32_0 : BitVec 32 := 0#32
  ![v0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S32x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .smem S1x1 .i32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S320000x128 : Shape := ⟨2, ![320000, 128]⟩
abbrev S_ : Shape := ⟨0, ![]⟩
abbrev S128 : Shape := ⟨1, ![128]⟩
abbrev S1x128 : Shape := ⟨2, ![1, 128]⟩
abbrev S40960000 : Shape := ⟨1, ![40960000]⟩
abbrev S40960000x1 : Shape := ⟨2, ![40960000, 1]⟩

abbrev nBuf : Space → Nat
  | .hbm => 49
  | .vmem => 0
  | .smem => 0
  | _ => 0

abbrev bufTy : (tb : Table) → Fin (tcTables nBuf tb) → BufTy
  | .hbm, ⟨0, _⟩ => ⟨S320000x128, .f32⟩
  | .hbm, ⟨1, _⟩ => ⟨S_, .f32⟩
  | .hbm, ⟨2, _⟩ => ⟨S128, .f32⟩
  | .hbm, ⟨3, _⟩ => ⟨S128, .i32⟩
  | .hbm, ⟨4, _⟩ => ⟨S1x128, .i32⟩
  | .hbm, ⟨5, _⟩ => ⟨S320000x128, .i32⟩
  | .hbm, ⟨6, _⟩ => ⟨S40960000, .i32⟩
  | .hbm, ⟨7, _⟩ => ⟨S40960000, .f32⟩
  | .hbm, ⟨8, _⟩ => ⟨S_, .f32⟩
  | .hbm, ⟨9, _⟩ => ⟨S40960000, .f32⟩
  | .hbm, ⟨10, _⟩ => ⟨S40960000, .i1⟩
  | .hbm, ⟨11, _⟩ => ⟨S_, .f32⟩
  | .hbm, ⟨12, _⟩ => ⟨S40960000, .f32⟩
  | .hbm, ⟨13, _⟩ => ⟨S40960000, .f32⟩
  | .hbm, ⟨14, _⟩ => ⟨S_, .f32⟩
  | .hbm, ⟨15, _⟩ => ⟨S128, .f32⟩
  | .hbm, ⟨16, _⟩ => ⟨S_, .i32⟩
  | .hbm, ⟨17, _⟩ => ⟨S40960000, .i32⟩
  | .hbm, ⟨18, _⟩ => ⟨S40960000, .i1⟩
  | .hbm, ⟨19, _⟩ => ⟨S_, .i32⟩
  | .hbm, ⟨20, _⟩ => ⟨S40960000, .i32⟩
  | .hbm, ⟨21, _⟩ => ⟨S40960000, .i32⟩
  | .hbm, ⟨22, _⟩ => ⟨S40960000, .i32⟩
  | .hbm, ⟨23, _⟩ => ⟨S40960000x1, .i32⟩
  | .hbm, ⟨24, _⟩ => ⟨S128, .f32⟩
  | .hbm, ⟨25, _⟩ => ⟨S128, .i1⟩
  | .hbm, ⟨26, _⟩ => ⟨S_, .i1⟩
  | .hbm, ⟨27, _⟩ => ⟨S_, .i1⟩
  | .hbm, ⟨28, _⟩ => ⟨S_, .i1⟩
  | .hbm, ⟨29, _⟩ => ⟨S128, .f32⟩
  | .hbm, ⟨30, _⟩ => ⟨S128, .f32⟩
  | .hbm, ⟨31, _⟩ => ⟨S128, .f32⟩
  | .hbm, ⟨32, _⟩ => ⟨S_, .f32⟩
  | .hbm, ⟨33, _⟩ => ⟨S128, .f32⟩
  | .hbm, ⟨34, _⟩ => ⟨S128, .f32⟩
  | .hbm, ⟨35, _⟩ => ⟨S_, .f32⟩
  | .hbm, ⟨36, _⟩ => ⟨S128, .f32⟩
  | .hbm, ⟨37, _⟩ => ⟨S128, .f32⟩
  | .hbm, ⟨38, _⟩ => ⟨S128, .i1⟩
  | .hbm, ⟨39, _⟩ => ⟨S128, .f32⟩
  | .hbm, ⟨40, _⟩ => ⟨S_, .f32⟩
  | .hbm, ⟨41, _⟩ => ⟨S128, .f32⟩
  | .hbm, ⟨42, _⟩ => ⟨S128, .i1⟩
  | .hbm, ⟨43, _⟩ => ⟨S128, .i1⟩
  | .hbm, ⟨44, _⟩ => ⟨S128, .i1⟩
  | .hbm, ⟨45, _⟩ => ⟨S128, .i1⟩
  | .hbm, ⟨46, _⟩ => ⟨S_, .i1⟩
  | .hbm, ⟨47, _⟩ => ⟨S_, .i1⟩
  | .hbm, ⟨48, _⟩ => ⟨S_, .i1⟩
  | _, _ => ⟨S320000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst_0 : Ref sig .tc := ⟨.hbm, 8, rfl⟩
abbrev main_v6 : Ref sig .tc := ⟨.hbm, 9, rfl⟩
abbrev main_v7 : Ref sig .tc := ⟨.hbm, 10, rfl⟩
abbrev main_cst_1 : Ref sig .tc := ⟨.hbm, 11, rfl⟩
abbrev main_v8 : Ref sig .tc := ⟨.hbm, 12, rfl⟩
abbrev main_v9 : Ref sig .tc := ⟨.hbm, 13, rfl⟩
abbrev main_cst_2 : Ref sig .tc := ⟨.hbm, 14, rfl⟩
abbrev main_v10 : Ref sig .tc := ⟨.hbm, 15, rfl⟩
abbrev main_c : Ref sig .tc := ⟨.hbm, 16, rfl⟩
abbrev main_v11 : Ref sig .tc := ⟨.hbm, 17, rfl⟩
abbrev main_v12 : Ref sig .tc := ⟨.hbm, 18, rfl⟩
abbrev main_c_3 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_c_4 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_5 : Ref sig .tc := ⟨.hbm, 32, rfl⟩
abbrev main_v24 : Ref sig .tc := ⟨.hbm, 33, rfl⟩
abbrev main_v25 : Ref sig .tc := ⟨.hbm, 34, rfl⟩
abbrev main_cst_6 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_7 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_c_8 : Ref sig .tc := ⟨.hbm, 46, rfl⟩
abbrev main_v35 : Ref sig .tc := ⟨.hbm, 47, rfl⟩
abbrev main_v36 : Ref sig .tc := ⟨.hbm, 48, rfl⟩

abbrev nD : Nat := 1
abbrev τ : Topo := Topo.v7x

variable {F : FTy → Type} [FloatOps F]
-- ==== Proof.Base.lean ====
/-
  The launch as the proof sees it: the SparseCore configuration, the two pipelines under it, the user algebra
  (the handshakes' rounds, the pipelines' rounds, the transfers' counters) and the names of the arrays.
-/
module

public import proofs.«01_k».proof.Defs
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Regions
public import proofs.«01_k».proof.Proof.Gen.KernelIdeal.Points
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Pipeline.RegionArrays
public import Idealize.ShloMosaic.Lib.Tactic

@[expose] public section

noncomputable section

namespace Cert.Proof.K

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 2) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipelines' rounds, the transfers' counters -/

abbrev UH : Type := URounds (GSem nD τ sig) ℕ
abbrev UU : Type := UH × (UR sig nD τ × Counters)

abbrev EH : Emb UH (MT nD τ sig (HIx 1) (Elt F) ℕ UU ℕ) := embL
abbrev EP : Emb (UR sig nD τ) (MT nD τ sig (HIx 1) (Elt F) ℕ UU ℕ) := (Emb.inl : Emb (UR sig nD τ) (UR sig nD τ × Counters)).trans embR

end Cert.Proof.K

end
-- ==== Proof.Seg.lean ====
/-
  A kernel region of @main over the unscoped buffers held at a valuation: what a TensorCore carries between its two dense passes,
  with the recorded waits bounded as the SparseCore call left them.
-/
module

public import proofs.«01_k».proof.Proof.Base
public import Idealize.ShloMosaic.Lib.Pipeline.RegionArraysS

@[expose] public section

noncomputable section

namespace Cert.Proof.K

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.TcCoe

variable {F : FTy → Type} [FloatOps F]

local notation "𝕄" => MT nD τ sig (HIx 1) (Elt F) ℕ UU ℕ

/-- The recorded pairs a TensorCore may hold after the SparseCore call: those at or below the call's last level. -/
def Bnd (c : Dev nD) : Set (SemLoc sig × HIx 1) :=
  {p | (K (F := F)).lev (N := 1) ((c : Thread nD τ), p.1) p.2 ≤ 8 * (SparseCore.Cfg.Blocks.fst (Q := 1) (N := 1) 1)}

/-- The thread owes nothing, its recorded pairs bounded. -/
def owesB (c : Dev nD) : sProp 𝕄 :=
  iprop(∃ Wd, ⌜∀ p ∈ Wd, p ∈ Bnd (F := F) c⌝ ∗ owes (c : Thread nD τ) (0 : CellTallies nD τ sig (HIx 1)) Wd)

variable (a : (p : Fin 2) → (pcfgs (F := F) p).Adm)
  (pdats : (p : Fin 2) → (c : Dev nD) → Pipeline.Dat τ (Elt F) (HIx 1) ℕ UU ℕ (Pipeline.pin (pcfgs (F := F)) a p) c)

/-- The region of pipeline `p`, entered with every unscoped buffer at the valuation `W c` and left with them at what the proof data say. -/
def seg (p : Fin 2) (kit : Pipeline.PLaunchFacts (nD := nD) (τ := τ) (pcfgs (F := F)) p)
    (hbody : ∀ c, Pipeline.BodyObligationLoose (pdats p c) (defs₀ (F := F)) 𝒱₀ none Set.univ)
    (howed : ∀ c t, (pdats p c).owed t = 0) (hrec : ∀ c t, (pdats p c).recorded t = Bnd (F := F) c)
    (hshare : ∀ c w, (pdats p c).share w = fullShare)
    (hΦ : ∀ c t, (pdats p c).Φ t = Pipeline.scopedRest (Pipeline.pin (pcfgs (F := F)) a p).spec c)
    (R : Dev nD → sProp 𝕄) (W : Dev nD → Valuation τ sig (Elt F))
    (hW : ∀ c w, (pdats p c).arrAt w 0 = W c (Proc.devRef .tc (Pipeline.arrRef (Pipeline.pin (pcfgs (F := F)) a p).spec w))) :
    Pipeline.RegionSeg (pcfgs (F := F)) a pdats none (defs₀ (F := F)) 𝒱₀ ((K (F := F)).L (N := 1)) ((K (F := F)).lev (N := 1)) p where
  win := kit.win.to₀
  block_pos := kit.block_pos
  stage_whole := kit.stage_whole
  K := PEmpty
  osem k := k.elim
  ho := Pipeline.OwnSemFacts.none _
  hbody := hbody
  hwaits := Pipeline.hwaits_of_owed_zero _ _ _ _ _ _ p howed
  pre c := iprop(StableHlo.held (c.tc : Thread nD τ) (Pipeline.ucRefs τ sig) (W c) ∗ owesB c ∗ R c)
  post c := iprop(StableHlo.held (c.tc : Thread nD τ) (Pipeline.ucRefs τ sig) (Pipeline.afterRegion (pdats p c) (W c)) ∗ owesB c ∗ R c)
  X _ := BI.emp
  Y _ := BI.emp
  Z c := iprop(StableHlo.held (c.tc : Thread nD τ) (Pipeline.ucRefs τ sig \ Pipeline.arrRefs (pcfgs (F := F) p).spec) (W c) ∗ R c)
  hentry c := by
    rw [Pipeline.ownSems0_none, Pipeline.prefHeld_of_none _ rfl,
      StableHlo.held_sub_split (c.tc : Thread nD τ) (Pipeline.arrRefs_sub_ucRefs (pcfgs (F := F) p).spec kit.win.arr_unscoped) (W c),
      ← Pipeline.arrays_held (pcfgs (F := F)) a pdats p kit c (hshare c) ((pdats p c).arrAt · 0) (W c) (hW c)]
    unfold owesB
    iintro ⟨⟨⟨Ha, Hu⟩, ⟨%Wd, %hWd, HO⟩, HR⟩, -, -⟩
    imodintro
    isplitl [Ha]; · iexact Ha
    isplitr; · iempintro
    isplitl [HO]
    · unfold Pipeline.Dat.owesAt Pipeline.owesWithin Pipeline.Dat.bound
      rw [howed c 0, hrec c]
      iexists Wd; isplitr; · ipureintro; exact fun q hq => Or.inl (hWd q hq)
      iexact HO
    isplitr; · iempintro
    isplitl [Hu] <;> iassumption
  hin c := by
    rw [Pipeline.prefHeld_of_none _ rfl, hΦ]
    iintro ⟨-, -, H⟩; iexact H
  hout c := by
    rw [Pipeline.ownSems0_none, hΦ]
    iintro H
    isplitr; · iempintro
    isplitr; · iempintro
    iexact H
  hexit c := by
    rw [StableHlo.held_sub_split (c.tc : Thread nD τ) (Pipeline.arrRefs_sub_ucRefs (pcfgs (F := F) p).spec kit.win.arr_unscoped)
        (Pipeline.afterRegion (pdats p c) (W c)),
      StableHlo.held_congr (c.tc : Thread nD τ) (S := Pipeline.ucRefs τ sig \ Pipeline.arrRefs (pcfgs (F := F) p).spec)
        (V := Pipeline.afterRegion (pdats p c) (W c)) (V' := W c) (Pipeline.afterRegion_off (pdats p c) (W c) _),
      ← Pipeline.arrays_held (pcfgs (F := F)) a pdats p kit c (hshare c) ((pdats p c).arrAt · (Pipeline.pin (pcfgs (F := F)) a p).N)
        (Pipeline.afterRegion (pdats p c) (W c)) (fun w => (Pipeline.afterRegion_arr (pdats p c) (W c) kit.win.arr_inj w).symm)]
    unfold owesB Pipeline.Dat.owesAt Pipeline.owesWithin Pipeline.Dat.bound
    rw [howed c, hrec c]
    iintro ⟨Ha, ⟨%Wd, %hWd, HO⟩, -, Hu, HR⟩
    imodintro
    isplitl [Ha Hu]
    · isplitl [Ha] <;> iassumption
    isplitl [HO]
    · iexists Wd; isplitr
      · ipureintro; intro q hq
        rcases hWd hq with h | ⟨w, s, h⟩
        · exact h
        · have h2 : q.2 = none := congrArg Prod.snd h
          show (K (F := F)).lev (N := 1) ((c : Thread nD τ), q.1) q.2 ≤ _
          rw [h2]; exact Nat.zero_le _
      iexact HO
    iexact HR

end Cert.Proof.K

end
-- ==== Proof.Prefix.lean ====
/-
  The first dense pass of the kernel, one grid step: the output block is zeroed at step 0, then the column sums of the step's
  block of `x` are added to it.
-/
module

public import proofs.«01_k».proof.Proof.Base
public import proofs.«01_k».proof.Proof.Gen.KernelIdeal.Skeleton
public import proofs.«01_k».proof.Proof.Gen.KernelIdeal.Points
public import Idealize.ShloMosaic.Lib.Pipeline.FrameBody
public import Idealize.ShloMosaic.Lib.VecWindow

@[expose] public section

noncomputable section

namespace Cert.Proof.K

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.TcCoe

variable {F : FTy → Type} [FloatOps F]

local notation "𝕄" => MT nD τ sig (HIx 1) (Elt F) ℕ UU ℕ

section
variable {sig' : RefSig} {κ : Kind} {sp : Space} {s : Shape} {e : EltTy} {Val : EltTy → Type}

/-- A view whose last store was of all of it reads what was stored. -/
theorem read_stored (v : View sig' κ sp s e) (f : v.ty.Contents Val) {off : Fin s.rank → ℕ} (inb : ∀ a, off a + s.size a ≤ s.size a)
    (w : (Rect.unit off s.size inb).shape.Idx → Val e) (L : List (View.Piece Val s e)) :
    v.read Val (v.writes Val f (⟨Rect.unit off s.size inb, w⟩ :: L)) = w := by
  rw [← View.readAt_full v _ inb]
  exact View.readAt_writes_full v f inb inb w L
end

/-- The condition of the body's zeroing, a step number as the word the body computes. -/
theorem firstStep1 : ∀ n : Fin 10, (Scalar.cmpi .ne (Scalar.extui (Scalar.cmpi .eq (BitVec.ofNat 32 n.val) 0#32)) 0#32 : BitVec 1) = 1#1 ↔ n.val = 0 := by
  decide

/-- The output block after a step: the zeroed or carried block plus the column sums. -/
def stepP (n : ℕ) (a : Vec F S1x128 .f32) (x : Vec F S8000x128 .f32) : Vec F S1x128 .f32 :=
  k1_pay2 (if n = 0 then k1_pay1 else a) x

set_option maxHeartbeats 4000000 in
/-- One step of the first dense pass, on any two whole staging buffers. -/
theorem prefix_run (c : Dev nD) (i : grid1.Coords) (arg1 : Memref sig .tc .vmem S8000x128 .f32) (harg1 : arg1.IsWhole)
    (arg2 : Memref sig .tc .vmem S1x128 .f32) (harg2 : arg2.IsWhole) (X : Vec F S8000x128 .f32) (A : Vec F S1x128 .f32) :
    iprop(owns c arg1 fullShare X ∗ owns c arg2 fullShare A : sProp 𝕄)
      ⊢ wp frame (wpE (defs₀ (F := F)) 𝒱₀ (c : Thread nD τ) none) Set.univ (cc1__tc_prefix_body (F := F) i arg1 harg1 arg2 harg2)
          (fun _ => iprop(owns c arg1 fullShare X ∗ owns c arg2 fullShare (stepP (i 0).val A X))) := by
  rw [cc1__tc_prefix_body_eq_skeleton]
  unfold cc1__tc_prefix_body_skel owns
  iintro ⟨⟨%f1, %h1, H1⟩, ⟨%f2, %h2, H2⟩⟩
  subst h1; subst h2
  by_cases h0 : (i 0).val = 0
  · have hc := (firstStep1 (i 0)).2 h0
    sl_exec
    sl_step
    isplitl [H1]
    · iexists f1; isplitr; · ipureintro; rfl
      iexact H1
    · iexists _; isplitr; rotate_left
      · iexact H2
      · ipureintro
        refine (read_stored _ _ _ _ _).trans ?_
        unfold stepP prefix_run.sl.v3 prefix_run.sl.H2_1
        rw [if_pos h0, View.readAt_full, View.readCov_full]
  · have hc := mt (firstStep1 (i 0)).1 h0
    sl_exec
    sl_step
    isplitl [H1]
    · iexists f1; isplitr; · ipureintro; rfl
      iexact H1
    · iexists _; isplitr; rotate_left
      · iexact H2
      · ipureintro
        refine (read_stored _ _ _ _ _).trans ?_
        unfold stepP
        rw [if_neg h0, View.readAt_full, View.readAt_full]

end Cert.Proof.K

end
-- ==== Proof.Dat1.lean ====
/-
  The proof data of the first dense pass, and its body obligation.
-/
module

public import proofs.«01_k».proof.Proof.Seg
public import proofs.«01_k».proof.Proof.Prefix

@[expose] public section

noncomputable section

namespace Cert.Proof.K

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.TcCoe

variable {F : FTy → Type} [FloatOps F]

local notation "𝕄" => MT nD τ sig (HIx 1) (Elt F) ℕ UU ℕ

variable (V : Valuation τ sig (Elt F))

/-- The block of `x` the first dense pass reads at point `t`. -/
def xBlk1 (t : Fin cfg1.N) : Vec F S8000x128 .f32 :=
  ((cfg1.win 0).blk t).view.read (Elt F) (V (Proc.devRef .tc main_arg0))

/-- The first dense pass's accumulator before point `n`. -/
def accP : ℕ → Vec F S1x128 .f32
  | 0 => fun _ => Scalar.ofBits .f32 0x00000000#32
  | n + 1 => if h : n < cfg1.N then stepP n (accP n) (xBlk1 V ⟨n, h⟩) else accP n

theorem accP_succ (t : Fin cfg1.N) : accP V (t.val + 1) = stepP t.val (accP V t.val) (xBlk1 V t) := by
  rw [accP, dif_pos t.isLt]

/-- The proof data of the first dense pass, entered at the valuation `V`. -/
def dat1 (c : Dev nD) : Pipeline.Dat τ (Elt F) (HIx 1) ℕ UU ℕ cfg1 c where
  A w := V (Proc.devRef .tc (Pipeline.arrRef spec1 w))
  after w t := match w with
    | ⟨0, _⟩ => xBlk1 V t
    | ⟨1, _⟩ => accP V (t.val + 1)
  Φ _ := Pipeline.scopedRest (Ix := HIx 1) (Name := ℕ) (U := UU) (Lvl := ℕ) (Val := Elt F) spec1 c
  q _ := fullShare
  owed _ := 0
  recorded _ := Bnd (F := F) c

theorem before1_0 (c : Dev nD) (t : Fin cfg1.N) (d) : (dat1 V c).before 0 t d = xBlk1 V t := by
  rw [Pipeline.Dat.before_fetched _ _ _ (fetch1_0 t)]
  rfl

theorem before1_1 (c : Dev nD) (t : Fin cfg1.N) (ht : t.val ≠ 0) (d) : (dat1 V c).before 1 t d = accP V t.val := by
  have hN : cfg1.N = 10 := N_1
  rw [Pipeline.Dat.before_out_kept _ _ rfl t ht _ (fun _ => rfl) (fun _ _ => rfl)]
  · show accP V (t.val - 1 + 1) = _
    rw [Nat.sub_add_cancel (Nat.one_le_iff_ne_zero.mpr ht)]
  · rw [Bool.eq_false_iff]
    intro h
    have := (flush1_1 _).1 h
    have := t.isLt
    dsimp only at *
    omega

theorem coords1 : ∀ t : Fin grid1.N, ((grid1.coords t) 0).val = t.val := by decide

theorem stepP_zero (A B : Vec F S1x128 .f32) (X : Vec F S8000x128 .f32) : stepP 0 A X = stepP 0 B X := rfl

theorem body1 (c : Dev nD) : Pipeline.BodyObligation (dat1 V c) (defs₀ (F := F)) 𝒱₀ none Set.univ := fun t => by
  rw [bigSep_W1, bigSep_W1]
  rw [show (dat1 V c).Φ t.castSucc = (dat1 V c).Φ t.succ from rfl,
    show (dat1 V c).owesAt none t.castSucc = (dat1 V c).owesAt none t.succ from rfl]
  have hx : ∀ d, (dat1 V c).before 0 t d = xBlk1 V t := before1_0 V c t
  iintro ⟨HΦ, Ho, ⟨%d0, H0⟩, ⟨%d1, H1⟩⟩
  rw [hx]
  iapply (wp_wand_r frame _ Set.univ)
  isplitl [H0 H1]
  · iapply (prefix_run c (grid1.coords t) (st1_0 t) (hstage1_0 ((cfg1.slots t 0).cast nbuf1_0)) (st1_1 t) (hstage1_1 ((cfg1.slots t 1).cast nbuf1_1)) (xBlk1 V t) ((dat1 V c).before 1 t d1))
    isplitl [H0] <;> iassumption
  iintro %_ ⟨H0, H1⟩
  isplitl [HΦ]; · iexact HΦ
  isplitl [Ho]; · iexact Ho
  isplitl [H0]; · iexact H0
  have e : stepP ((grid1.coords t) 0).val ((dat1 V c).before 1 t d1) (xBlk1 V t) = accP V (t.val + 1) := by
    rw [accP_succ, coords1]
    by_cases h0 : t.val = 0
    · rw [h0]; exact stepP_zero _ _ _
    · rw [before1_1 V c t h0]
  rw [e]
  iexact H1

end Cert.Proof.K

end
-- ==== Proof.Chain.lean ====
/-
  The second dense pass of the kernel, one grid step: the running column sum of the whole array is carried on through the step's
  block row pair by row pair, the dense sum of the tail rows is accumulated beside it, and the last step compares the two.
-/
module

public import proofs.«01_k».proof.Proof.Prefix

@[expose] public section

noncomputable section

namespace Cert.Proof.K

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.TcCoe

variable {F : FTy → Type} [FloatOps F]

local notation "𝕄" => MT nD τ sig (HIx 1) (Elt F) ℕ UU ℕ

/-! ## The counted loop -/

/-- The 200 rows of the step's block that trip `k` reads. -/
def winC (x : Vec F S2000x128 .f32) (k : Fin k2_t1_loop.trips) : Vec F S200x128 .f32 :=
  fun y => x ((Rect.unit (s := S2000x128) (k2_off1 k) S200x128.size (k2_off1_inb k)).toLoadRect.idx y)

/-- What trip `k` yields from the carried vector. -/
def tripC (x : Vec F S2000x128 .f32) (k : Fin k2_t1_loop.trips) (acc : FVec F S128 .f32) : FVec F S128 .f32 :=
  k2_pay3 (winC x k) (k2_pay15 (winC x k) (k2_pay14 (winC x k) (k2_pay13 (winC x k) (k2_pay12 (winC x k) (k2_pay11 (winC x k)
    (k2_pay10 (winC x k) (k2_pay9 (winC x k) (k2_pay8 (winC x k) (k2_pay7 (winC x k) (k2_pay6 acc (winC x k)))))))))))

/-- The carried vector before trip `n`. -/
def stC (x : Vec F S2000x128 .f32) (init : FVec F S128 .f32) : ℕ → FVec F S128 .f32
  | 0 => init
  | n + 1 => if h : n < k2_t1_loop.trips then tripC x ⟨n, h⟩ (stC x init n) else stC x init n

theorem stC_succ (x : Vec F S2000x128 .f32) (init : FVec F S128 .f32) (k : Fin k2_t1_loop.trips) :
    stC x init (k.val + 1) = tripC x k (stC x init k.val) := by
  rw [stC, dif_pos k.isLt]

section Loop
variable (c : Dev nD) (i : grid2.Coords) (arg1 : Memref sig .tc .vmem S2000x128 .f32) (harg1 : arg1.IsWhole)
    (arg2 : Memref sig .tc .vmem S32x128 .f32) (harg2 : arg2.IsWhole) (arg3 : Memref sig .tc .vmem S1x128 .f32) (harg3 : arg3.IsWhole)
    (arg4 : Memref sig .tc .vmem S1x128 .f32) (harg4 : arg4.IsWhole) (arg5 : Memref sig .tc .vmem S1x128 .f32) (harg5 : arg5.IsWhole)
    (arg6 : Memref sig .tc .smem S1x1 .i32) (harg6 : arg6.IsWhole)

theorem tripC_wp (f : BufTy.Contents (Elt F) arg1.view.ty) (k : Fin k2_t1_loop.trips) (acc : FVec F S128 .f32) :
    (arg1.view.loc (c : Thread nD τ) ↦[arg1.view.set]{fullShare} f : sProp 𝕄) ⊢
      wp frame (wpE (defs₀ (F := F)) 𝒱₀ (c : Thread nD τ) none) Set.univ
        (k2_t1_body (F := F) i arg1 harg1 arg2 harg2 arg3 harg3 arg4 harg4 arg5 harg5 arg6 harg6 k acc)
        (fun yld => iprop((arg1.view.loc (c : Thread nD τ) ↦[arg1.view.set]{fullShare} f) ∗ ⌜yld = tripC (arg1.view.read (Elt F) f) k acc⌝)) := by
  have hk : k.val < 10 := Nat.lt_of_lt_of_le k.isLt k2_t1_abs.2.1
  unfold k2_t1_body
  iintro H
  sl_exec
  sl_step
  isplitl [H]; · iexact H
  ipureintro; rfl

set_option warn.classDefReducibility false in
/-- The loop by its invariant. -/
@[sl_loop] def loopC (f : BufTy.Contents (Elt F) arg1.view.ty) (init : FVec F S128 .f32) :
    LoopInv (M := 𝕄) frame (wpE (defs₀ (F := F)) 𝒱₀ (c : Thread nD τ) none) Set.univ
      k2_t1_loop.lb k2_t1_loop.ub k2_t1_loop.st k2_t1_ok init (k2_t1_body (F := F) i arg1 harg1 arg2 harg2 arg3 harg3 arg4 harg4 arg5 harg5 arg6 harg6) where
  inv n acc := iprop((arg1.view.loc (c : Thread nD τ) ↦[arg1.view.set]{fullShare} f) ∗ ⌜acc = stC (arg1.view.read (Elt F) f) init n⌝)
  step k acc := by
    iintro ⟨H, %hacc⟩
    subst hacc
    rw [stC_succ _ init k]
    iapply (tripC_wp c i arg1 harg1 arg2 harg2 arg3 harg3 arg4 harg4 arg5 harg5 arg6 harg6 f k _) $$ H

end Loop

/-! ## One step -/

theorem firstStep2 : ∀ n : Fin 56, (Scalar.cmpi .ne (Scalar.extui (Scalar.cmpi .eq (BitVec.ofNat 32 n.val) 0#32)) 0#32 : BitVec 1) = 1#1 ↔ n.val = 0 := by
  decide

theorem lastStep2 (i : grid2.Coords) : k2_cond2 i = 1#1 ↔ (i 0).val = 55 := by
  have h : ∀ n : Fin 56, (Scalar.cmpi .ne (Scalar.extui (Scalar.cmpi .eq (BitVec.ofNat 32 n.val) 55#32)) 0#32 : BitVec 1) = 1#1 ↔ n.val = 55 := by
    decide
  exact h (i 0)

/-- The running sum's block after a step. -/
def stepS (i : grid2.Coords) (scp : Vec F S32x128 .f32) (tcp s : Vec F S1x128 .f32) (x : Vec F S2000x128 .f32) : Vec F S1x128 .f32 :=
  k2_pay4 (stC x (k2_pay2 i scp tcp s) k2_t1_loop.trips)

/-- The dense sum's block after a step. -/
def stepD (n : ℕ) (a : Vec F S1x128 .f32) (x : Vec F S2000x128 .f32) : Vec F S1x128 .f32 :=
  k2_pay5 (if n = 0 then k2_pay1 else a) x

/-- The comparison's word, from the two partial sums, the dense sum and the running sum. -/
def okWord (scp : Vec F S32x128 .f32) (tcp a s : Vec F S1x128 .f32) : BitVec 32 :=
  Scalar.extui (Scalar.andi (Scalar.xori (Scalar.cmpf .ogt (k2_pay18 s) (Scalar.ofBits .f32 0x00000000#32)) 1#1)
    (Scalar.cmpf .ogt (k2_pay17 scp tcp a s) (Scalar.ofBits .f32 0x00000000#32)))

set_option maxHeartbeats 16000000 in
/-- One step of the second dense pass, on any whole staging buffers. -/
theorem chain_run (c : Dev nD) (i : grid2.Coords) (arg1 : Memref sig .tc .vmem S2000x128 .f32) (harg1 : arg1.IsWhole)
    (arg2 : Memref sig .tc .vmem S32x128 .f32) (harg2 : arg2.IsWhole) (arg3 : Memref sig .tc .vmem S1x128 .f32) (harg3 : arg3.IsWhole)
    (arg4 : Memref sig .tc .vmem S1x128 .f32) (harg4 : arg4.IsWhole) (arg5 : Memref sig .tc .vmem S1x128 .f32) (harg5 : arg5.IsWhole)
    (arg6 : Memref sig .tc .smem S1x1 .i32) (harg6 : arg6.IsWhole)
    (X : Vec F S2000x128 .f32) (P : Vec F S32x128 .f32) (Q A S : Vec F S1x128 .f32) (W : Vec F S1x1 .i32) :
    iprop(owns c arg1 fullShare X ∗ owns c arg2 fullShare P ∗ owns c arg3 fullShare Q ∗ owns c arg4 fullShare A
        ∗ owns c arg5 fullShare S ∗ owns c arg6 fullShare W : sProp 𝕄)
      ⊢ wp frame (wpE (defs₀ (F := F)) 𝒱₀ (c : Thread nD τ) none) Set.univ (cc2__tc_chain_body (F := F) i arg1 harg1 arg2 harg2 arg3 harg3 arg4 harg4 arg5 harg5 arg6 harg6)
          (fun _ => iprop(owns c arg1 fullShare X ∗ owns c arg2 fullShare P ∗ owns c arg3 fullShare Q
            ∗ owns c arg4 fullShare (stepD (i 0).val A X) ∗ owns c arg5 fullShare (stepS i P Q S X)
            ∗ owns c arg6 fullShare (if (i 0).val = 55 then fun _ => okWord P Q (stepD (i 0).val A X) (stepS i P Q S X) else W))) := by
  rw [cc2__tc_chain_body_eq_skeleton]
  unfold cc2__tc_chain_body_skel owns
  iintro ⟨⟨%f1, %h1, H1⟩, ⟨%f2, %h2, H2⟩, ⟨%f3, %h3, H3⟩, ⟨%f4, %h4, H4⟩, ⟨%f5, %h5, H5⟩, ⟨%f6, %h6, H6⟩⟩
  subst h1; subst h2; subst h3; subst h4; subst h5; subst h6
  by_cases h0 : (i 0).val = 0
  · have hc := (firstStep2 (i 0)).2 h0
    have hl : ¬ k2_cond2 i = 1#1 := fun h => by have := (lastStep2 i).1 h; omega
    sl_exec
    sl_step
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists _; isplitr; rotate_left
      · iexact H4
      · ipureintro
        refine (read_stored _ _ _ _ _).trans ?_
        unfold stepD; rw [if_pos h0, View.readAt_full]
        unfold chain_run.sl.v18 chain_run.sl.H4_1; rw [View.readCov_full]
    isplitl [H5]
    · iexists _; isplitr; rotate_left
      · iexact H5
      · ipureintro
        refine (read_stored _ _ _ _ _).trans ?_
        unfold stepS; rw [View.readAt_full, View.readAt_full, View.readAt_full]
    · iexists _; isplitr; rotate_left
      · iexact H6
      · ipureintro
        rw [if_neg (by omega)]
  have hc := mt (firstStep2 (i 0)).1 h0
  by_cases h9 : (i 0).val = 55
  · have hl := (lastStep2 i).2 h9
    sl_exec
    sl_step
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists _; isplitr; rotate_left
      · iexact H4
      · ipureintro
        refine (read_stored _ _ _ _ _).trans ?_
        unfold stepD; rw [if_neg h0, View.readAt_full, View.readAt_full]
    isplitl [H5]
    · iexists _; isplitr; rotate_left
      · iexact H5
      · ipureintro
        refine (read_stored _ _ _ _ _).trans ?_
        unfold stepS; rw [View.readAt_full, View.readAt_full, View.readAt_full]
    · iexists _; isplitr; rotate_left
      · iexact H6
      · ipureintro
        rw [if_pos h9]
        refine (read_stored _ _ _ _ _).trans ?_
        unfold chain_run.sl.v66 chain_run.sl.v65 chain_run.sl.v54 chain_run.sl.v64 chain_run.sl.cst_33 chain_run.sl.v34 chain_run.sl.v63
          chain_run.sl.cst_33 chain_run.sl.v37 chain_run.sl.H4_1_1 chain_run.sl.H5_1
        rw [View.readCov_full, View.readCov_full, View.readAt_full, View.readAt_full, View.readAt_full, View.readAt_full, View.readAt_full]
        unfold okWord stepD stepS; rw [if_neg h0]; rfl
  · have hl := mt (lastStep2 i).1 h9
    sl_exec
    sl_step
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists _; isplitr; rotate_left
      · iexact H4
      · ipureintro
        refine (read_stored _ _ _ _ _).trans ?_
        unfold stepD; rw [if_neg h0, View.readAt_full, View.readAt_full]
    isplitl [H5]
    · iexists _; isplitr; rotate_left
      · iexact H5
      · ipureintro
        refine (read_stored _ _ _ _ _).trans ?_
        unfold stepS; rw [View.readAt_full, View.readAt_full, View.readAt_full]
    · iexists _; isplitr; rotate_left
      · iexact H6
      · ipureintro
        rw [if_neg h9]

end Cert.Proof.K

end
-- ==== Proof.Dat2.lean ====
/-
  The proof data of the second dense pass, and its body obligation.
-/
module

public import proofs.«01_k».proof.Proof.Dat1
public import proofs.«01_k».proof.Proof.Chain

@[expose] public section

noncomputable section

namespace Cert.Proof.K

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.TcCoe

variable {F : FTy → Type} [FloatOps F]

local notation "𝕄" => MT nD τ sig (HIx 1) (Elt F) ℕ UU ℕ

variable (V : Valuation τ sig (Elt F))

/-- The block of `x` the second dense pass reads at point `t`. -/
def xBlk2 (t : Fin cfg2.N) : Vec F S2000x128 .f32 :=
  ((cfg2.win 0).blk t).view.read (Elt F) (V (Proc.devRef .tc main_arg0))

/-- The partial sums of the SparseCore rows, as read at point `t`. -/
def scpBlk (t : Fin cfg2.N) : Vec F S32x128 .f32 :=
  ((cfg2.win 1).blk t).view.read (Elt F) (V (Proc.devRef .tc main_v1))

/-- The first dense pass's sum, as read at point `t`. -/
def tcpBlk (t : Fin cfg2.N) : Vec F S1x128 .f32 :=
  ((cfg2.win 2).blk t).view.read (Elt F) (V (Proc.devRef .tc main_v2))

/-- The dense accumulator before point `n`. -/
def accD : ℕ → Vec F S1x128 .f32
  | 0 => fun _ => Scalar.ofBits .f32 0x00000000#32
  | n + 1 => if h : n < cfg2.N then stepD n (accD n) (xBlk2 V ⟨n, h⟩) else accD n

theorem accD_succ (t : Fin cfg2.N) : accD V (t.val + 1) = stepD t.val (accD V t.val) (xBlk2 V t) := by
  rw [accD, dif_pos t.isLt]

/-- The running sum before point `n`. -/
def accS : ℕ → Vec F S1x128 .f32
  | 0 => fun _ => Scalar.ofBits .f32 0x00000000#32
  | n + 1 => if h : n < cfg2.N then stepS (grid2.coords ⟨n, h⟩) (scpBlk V ⟨n, h⟩) (tcpBlk V ⟨n, h⟩) (accS n) (xBlk2 V ⟨n, h⟩) else accS n

theorem accS_succ (t : Fin cfg2.N) :
    accS V (t.val + 1) = stepS (grid2.coords t) (scpBlk V t) (tcpBlk V t) (accS V t.val) (xBlk2 V t) := by
  rw [accS, dif_pos t.isLt]

/-- The comparison's word over the accumulators after point `t`. -/
def okAt (t : Fin cfg2.N) : BitVec 32 := okWord (scpBlk V t) (tcpBlk V t) (accD V (t.val + 1)) (accS V (t.val + 1))

/-- The proof data of the second dense pass, entered at the valuation `V`. -/
def dat2 (c : Dev nD) : Pipeline.Dat τ (Elt F) (HIx 1) ℕ UU ℕ cfg2 c where
  A w := V (Proc.devRef .tc (Pipeline.arrRef spec2 w))
  after w t := match w with
    | ⟨0, _⟩ => xBlk2 V t
    | ⟨1, _⟩ => scpBlk V t
    | ⟨2, _⟩ => tcpBlk V t
    | ⟨3, _⟩ => accD V (t.val + 1)
    | ⟨4, _⟩ => accS V (t.val + 1)
    | ⟨5, _⟩ => fun _ => okAt V t
  Φ _ := Pipeline.scopedRest (Ix := HIx 1) (Name := ℕ) (U := UU) (Lvl := ℕ) (Val := Elt F) spec2 c
  q _ := fullShare
  owed _ := 0
  recorded _ := Bnd (F := F) c

theorem before2_0 (c : Dev nD) (t : Fin cfg2.N) (d) : (dat2 V c).before 0 t d = xBlk2 V t := by
  rw [Pipeline.Dat.before_in_eq_fetched _ _ rfl (fun _ => rfl) (fun _ _ _ => rfl) (fun _ => rfl)]
  rfl

theorem before2_1 (c : Dev nD) (t : Fin cfg2.N) (d) : (dat2 V c).before 1 t d = scpBlk V t := by
  rw [Pipeline.Dat.before_in_eq_fetched _ _ rfl (fun _ => rfl) (fun _ _ _ => rfl) (fun _ => rfl)]
  rfl

theorem before2_2 (c : Dev nD) (t : Fin cfg2.N) (d) : (dat2 V c).before 2 t d = tcpBlk V t := by
  rw [Pipeline.Dat.before_in_eq_fetched _ _ rfl (fun _ => rfl) (fun _ _ _ => rfl) (fun _ => rfl)]
  rfl

theorem before2_3 (c : Dev nD) (t : Fin cfg2.N) (ht : t.val ≠ 0) (d) : (dat2 V c).before 3 t d = accD V t.val := by
  have hN : cfg2.N = 56 := N_2
  rw [Pipeline.Dat.before_out_kept _ _ rfl t ht _ (fun _ => rfl) (fun _ _ => rfl)]
  · show accD V (t.val - 1 + 1) = _
    rw [Nat.sub_add_cancel (Nat.one_le_iff_ne_zero.mpr ht)]
  · rw [Bool.eq_false_iff]
    intro h
    have := (flush2_3 _).1 h
    have := t.isLt
    dsimp only at *
    omega

theorem before2_4 (c : Dev nD) (t : Fin cfg2.N) (ht : t.val ≠ 0) (d) : (dat2 V c).before 4 t d = accS V t.val := by
  have hN : cfg2.N = 56 := N_2
  rw [Pipeline.Dat.before_out_kept _ _ rfl t ht _ (fun _ => rfl) (fun _ _ => rfl)]
  · show accS V (t.val - 1 + 1) = _
    rw [Nat.sub_add_cancel (Nat.one_le_iff_ne_zero.mpr ht)]
  · rw [Bool.eq_false_iff]
    intro h
    have := (flush2_4 _).1 h
    have := t.isLt
    dsimp only at *
    omega

theorem coords2 : ∀ t : Fin grid2.N, ((grid2.coords t) 0).val = t.val := by decide

theorem stepD_zero (A B : Vec F S1x128 .f32) (X : Vec F S2000x128 .f32) : stepD 0 A X = stepD 0 B X := rfl

theorem stepS_zero (i : grid2.Coords) (hi : (i 0).val = 0) (P : Vec F S32x128 .f32) (Q A B : Vec F S1x128 .f32) (X : Vec F S2000x128 .f32) :
    stepS i P Q A X = stepS i P Q B X := by
  unfold stepS k2_pay2
  simp only [hi]
  rfl

theorem body2 (c : Dev nD) : Pipeline.BodyObligation (dat2 V c) (defs₀ (F := F)) 𝒱₀ none Set.univ := fun t => by
  rw [bigSep_W2, bigSep_W2]
  rw [show (dat2 V c).Φ t.castSucc = (dat2 V c).Φ t.succ from rfl,
    show (dat2 V c).owesAt none t.castSucc = (dat2 V c).owesAt none t.succ from rfl]
  have h0 : ∀ d, (dat2 V c).before 0 t d = xBlk2 V t := before2_0 V c t
  have h1 : ∀ d, (dat2 V c).before 1 t d = scpBlk V t := before2_1 V c t
  have h2 : ∀ d, (dat2 V c).before 2 t d = tcpBlk V t := before2_2 V c t
  iintro ⟨HΦ, Ho, ⟨%d0, H0⟩, ⟨%d1, H1⟩, ⟨%d2, H2⟩, ⟨%d3, H3⟩, ⟨%d4, H4⟩, ⟨%d5, H5⟩⟩
  rw [h0, h1, h2]
  iapply (wp_wand_r frame _ Set.univ)
  isplitl [H0 H1 H2 H3 H4 H5]
  · iapply (chain_run c (grid2.coords t) (st2_0 t) (hstage2_0 ((cfg2.slots t 0).cast nbuf2_0)) (st2_1 t) (hstage2_1 ((cfg2.slots t 1).cast nbuf2_1))
      (st2_2 t) (hstage2_2 ((cfg2.slots t 2).cast nbuf2_2)) (st2_3 t) (hstage2_3 ((cfg2.slots t 3).cast nbuf2_3))
      (st2_4 t) (hstage2_4 ((cfg2.slots t 4).cast nbuf2_4)) (st2_5 t) (hstage2_5 ((cfg2.slots t 5).cast nbuf2_5))
      (xBlk2 V t) (scpBlk V t) (tcpBlk V t) ((dat2 V c).before 3 t d3) ((dat2 V c).before 4 t d4) ((dat2 V c).before 5 t d5))
    isplitl [H0]; · iexact H0
    isplitl [H1]; · iexact H1
    isplitl [H2]; · iexact H2
    isplitl [H3]; · iexact H3
    isplitl [H4] <;> iassumption
  have eD : stepD ((grid2.coords t) 0).val ((dat2 V c).before 3 t d3) (xBlk2 V t) = accD V (t.val + 1) := by
    rw [accD_succ, coords2]
    by_cases ht : t.val = 0
    · rw [ht]; exact stepD_zero _ _ _
    · rw [before2_3 V c t ht]
  have eS : stepS (grid2.coords t) (scpBlk V t) (tcpBlk V t) ((dat2 V c).before 4 t d4) (xBlk2 V t) = accS V (t.val + 1) := by
    rw [accS_succ]
    by_cases ht : t.val = 0
    · exact stepS_zero _ ((coords2 t).trans ht) _ _ _ _ _
    · rw [before2_4 V c t ht]
  rw [eD, eS]
  iintro %_ ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  have hN : cfg2.N = 56 := N_2
  by_cases ht : t.val = 55
  · have hi : cfg2.idle 5 (cfg2.grid.coords t) = false := by
      show (!(k2_cond2 (grid2.coords t) == 1#1)) = false
      rw [(lastStep2 _).2 ((coords2 t).trans ht)]; rfl
    rw [if_pos ((coords2 t).trans ht), hi]
    iexact H5
  · have hi : cfg2.idle 5 (cfg2.grid.coords t) = true := by
      show (!(k2_cond2 (grid2.coords t) == 1#1)) = true
      have : ¬ k2_cond2 (grid2.coords t) = 1#1 := fun h => ht ((coords2 t).symm.trans ((lastStep2 _).1 h))
      rw [beq_eq_false_iff_ne.2 this]; rfl
    have hf : (cfg2.win 5).flush t = false := by
      rw [Bool.eq_false_iff]; intro h
      have := (flush2_5 t).1 h
      have := t.isLt
      omega
    rw [if_neg (fun h => ht ((coords2 t).symm.trans h)), hi, hf]
    iexists d5
    iexact H5

end Cert.Proof.K

end
-- ==== Proof.Trip.lean ====
/-
  The SparseCore kernel's counted loops: a trip adds one row of a slot of the chunk buffer, 16 lanes at a time, to
  the eight carried vectors. The ten loops are two regions (slot 0, slot 1), each printed five times.
-/
module

public import proofs.«01_k».proof.Proof.Base

@[expose] public section

noncomputable section

namespace Cert.Proof.K

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
local notation "xV" => (Memref.whole Cert.KernelIdeal.main_arg0_scv : Memref Cert.KernelIdeal.sig Kind.scVector Space.hbm Cert.KernelIdeal.S320000x128 EltTy.f32)
local notation "oV" => (Memref.whole Cert.KernelIdeal.main_v0_scv : Memref Cert.KernelIdeal.sig Kind.scVector Space.hbm Cert.KernelIdeal.S32x8x16 EltTy.f32)
local notation "bV" => (Memref.whole Cert.KernelIdeal.cc0_scratch0 : Memref Cert.KernelIdeal.sig Kind.scVector Space.vmem Cert.KernelIdeal.S2x400x128 EltTy.f32)
local notation "aV" => (Memref.whole Cert.KernelIdeal.cc0_scratch1 : Memref Cert.KernelIdeal.sig Kind.scVector Space.vmem Cert.KernelIdeal.S8x16 EltTy.f32)

abbrev cV (L : grid0.Coords) : Fin τ.nSC := (L 0).castLE hcore0
abbrev jV (L : grid0.Coords) : Fin τ.nSub := (L 1).castLE hsub0

abbrev Acc8 (F : FTy → Type) [FloatOps F] : Type := FVec F S16 .f32 × FVec F S16 .f32 × FVec F S16 .f32 × FVec F S16 .f32 × FVec F S16 .f32 × FVec F S16 .f32 × FVec F S16 .f32 × FVec F S16 .f32

abbrev slot0 : Memref sig .scVector .vmem S400x128 .f32 :=
  ((bV).slice (Rect.unit (s := S2x400x128) ![0, 0, 0] S1x400x128.size inb_S2x400x128_S1x400x128_0_0_0) (fun _ => rfl)).squeeze S400x128 squeezes_S1x400x128_S400x128
abbrev slot1 : Memref sig .scVector .vmem S400x128 .f32 :=
  ((bV).slice (Rect.unit (s := S2x400x128) ![1, 0, 0] S1x400x128.size inb_S2x400x128_S1x400x128_1_0_0) (fun _ => rfl)).squeeze S400x128 squeezes_S1x400x128_S400x128

/-! ## What a trip yields -/

abbrev boxOf (s t g : ℕ) (h : ∀ a, (![s, t, g] : Fin 3 → ℕ) a + S1x1x16.size a ≤ S2x400x128.size a) : LoadRect S2x400x128 :=
  (Rect.unit (s := S2x400x128) ![s, t, g] S1x1x16.size h).toLoadRect

/-- What a trip over slot 0 makes of the carried vectors. -/
def trip0 (f : BufTy.Contents (Elt F) (slot0).view.ty) (k : Fin k0_t1_loop.trips) (acc : Acc8 F) : Acc8 F :=
  (k0_pay9 acc.1 ((bV).view.readAt (Elt F) (Rect.unit (s := S2x400x128) (k0_off2 k) S1x1x16.size (k0_off2_inb k)).toLoadRect f), k0_pay10 acc.2.1 ((bV).view.readAt (Elt F) (Rect.unit (s := S2x400x128) (k0_off3 k) S1x1x16.size (k0_off3_inb k)).toLoadRect f), k0_pay11 acc.2.2.1 ((bV).view.readAt (Elt F) (Rect.unit (s := S2x400x128) (k0_off4 k) S1x1x16.size (k0_off4_inb k)).toLoadRect f), k0_pay12 acc.2.2.2.1 ((bV).view.readAt (Elt F) (Rect.unit (s := S2x400x128) (k0_off5 k) S1x1x16.size (k0_off5_inb k)).toLoadRect f), k0_pay13 acc.2.2.2.2.1 ((bV).view.readAt (Elt F) (Rect.unit (s := S2x400x128) (k0_off6 k) S1x1x16.size (k0_off6_inb k)).toLoadRect f), k0_pay14 acc.2.2.2.2.2.1 ((bV).view.readAt (Elt F) (Rect.unit (s := S2x400x128) (k0_off7 k) S1x1x16.size (k0_off7_inb k)).toLoadRect f), k0_pay15 acc.2.2.2.2.2.2.1 ((bV).view.readAt (Elt F) (Rect.unit (s := S2x400x128) (k0_off8 k) S1x1x16.size (k0_off8_inb k)).toLoadRect f), k0_pay16 acc.2.2.2.2.2.2.2 ((bV).view.readAt (Elt F) (Rect.unit (s := S2x400x128) (k0_off9 k) S1x1x16.size (k0_off9_inb k)).toLoadRect f))

/-- The carried vectors before trip `n` over slot 0. -/
def st0 (f : BufTy.Contents (Elt F) (slot0).view.ty) (init : Acc8 F) : ℕ → Acc8 F
  | 0 => init
  | n + 1 => if h : n < k0_t1_loop.trips then trip0 f ⟨n, h⟩ (st0 f init n) else st0 f init n

theorem st0_succ (f : BufTy.Contents (Elt F) (slot0).view.ty) (init : Acc8 F) (k : Fin k0_t1_loop.trips) :
    st0 f init (k.val + 1) = trip0 f k (st0 f init k.val) := dif_pos k.isLt

section
variable (d : Dev nD) (L : grid0.Coords) (v2 : BitVec 32) (a b c e g h i j : FVec F S16 .f32)

/-- One trip over slot 0. -/
theorem trip0_wp (f : BufTy.Contents (Elt F) (slot0).view.ty) (k : Fin k0_t1_loop.trips) (acc : Acc8 F) :
    ((slot0).view.loc (V d (cV L) (jV L)) ↦[(slot0).view.set]{fullShare} f : sProp 𝕄) ⊢
      wp frame (wpE (defs₀ (F := F)) 𝒱₀ (V d (cV L) (jV L)) none) Set.univ
        (k0_t1_body (F := F) L xV (Memref.isWhole_whole _) oV (Memref.isWhole_whole _)
            bV (Memref.isWhole_whole _) aV (Memref.isWhole_whole _) cc0_scratch2 cc0_scratch3 cc0_scoped0 v2 a b c e g h i j k acc)
        (fun yld => iprop(((slot0).view.loc (V d (cV L) (jV L)) ↦[(slot0).view.set]{fullShare} f) ∗ ⌜yld = trip0 f k acc⌝)) := by
  have hk : k.val < 400 := Nat.lt_of_lt_of_le k.isLt k0_t1_abs.2.1
  unfold k0_t1_body
  iintro H
  sl_exec
  sl_step
  isplitl [H]; · iexact H
  ipureintro; rfl

set_option warn.classDefReducibility false in
/-- The kernel's loop 1 by its invariant. -/
@[sl_loop] def loop1 (f : BufTy.Contents (Elt F) (slot0).view.ty) (init : Acc8 F) :
    LoopInv (M := 𝕄) frame (wpE (defs₀ (F := F)) 𝒱₀ (V d (cV L) (jV L)) none) Set.univ
      k0_t1_loop.lb k0_t1_loop.ub k0_t1_loop.st k0_t1_ok init
      (k0_t1_body (F := F) L xV (Memref.isWhole_whole _) oV (Memref.isWhole_whole _)
            bV (Memref.isWhole_whole _) aV (Memref.isWhole_whole _) cc0_scratch2 cc0_scratch3 cc0_scoped0 v2 a b c e g h i j) where
  inv n acc := iprop(((slot0).view.loc (V d (cV L) (jV L)) ↦[(slot0).view.set]{fullShare} f) ∗ ⌜acc = st0 f init n⌝)
  step k acc := by
    iintro ⟨H, %hacc⟩
    subst hacc
    rw [st0_succ f init k]
    iapply (trip0_wp d L v2 a b c e g h i j f k _) $$ H

set_option warn.classDefReducibility false in
/-- The kernel's loop 3 by its invariant. -/
@[sl_loop] def loop3 (f : BufTy.Contents (Elt F) (slot0).view.ty) (init : Acc8 F) :
    LoopInv (M := 𝕄) frame (wpE (defs₀ (F := F)) 𝒱₀ (V d (cV L) (jV L)) none) Set.univ
      k0_t3_loop.lb k0_t3_loop.ub k0_t3_loop.st k0_t3_ok init
      (k0_t3_body (F := F) L xV (Memref.isWhole_whole _) oV (Memref.isWhole_whole _)
            bV (Memref.isWhole_whole _) aV (Memref.isWhole_whole _) cc0_scratch2 cc0_scratch3 cc0_scoped0 v2 a b c e g h i j) where
  inv n acc := iprop(((slot0).view.loc (V d (cV L) (jV L)) ↦[(slot0).view.set]{fullShare} f) ∗ ⌜acc = st0 f init n⌝)
  step k acc := by
    iintro ⟨H, %hacc⟩
    subst hacc
    rw [st0_succ f init k]
    iapply (trip0_wp d L v2 a b c e g h i j f k _) $$ H

set_option warn.classDefReducibility false in
/-- The kernel's loop 5 by its invariant. -/
@[sl_loop] def loop5 (f : BufTy.Contents (Elt F) (slot0).view.ty) (init : Acc8 F) :
    LoopInv (M := 𝕄) frame (wpE (defs₀ (F := F)) 𝒱₀ (V d (cV L) (jV L)) none) Set.univ
      k0_t5_loop.lb k0_t5_loop.ub k0_t5_loop.st k0_t5_ok init
      (k0_t5_body (F := F) L xV (Memref.isWhole_whole _) oV (Memref.isWhole_whole _)
            bV (Memref.isWhole_whole _) aV (Memref.isWhole_whole _) cc0_scratch2 cc0_scratch3 cc0_scoped0 v2 a b c e g h i j) where
  inv n acc := iprop(((slot0).view.loc (V d (cV L) (jV L)) ↦[(slot0).view.set]{fullShare} f) ∗ ⌜acc = st0 f init n⌝)
  step k acc := by
    iintro ⟨H, %hacc⟩
    subst hacc
    rw [st0_succ f init k]
    iapply (trip0_wp d L v2 a b c e g h i j f k _) $$ H

set_option warn.classDefReducibility false in
/-- The kernel's loop 7 by its invariant. -/
@[sl_loop] def loop7 (w : BitVec 32) (f : BufTy.Contents (Elt F) (slot0).view.ty) (init : Acc8 F) :
    LoopInv (M := 𝕄) frame (wpE (defs₀ (F := F)) 𝒱₀ (V d (cV L) (jV L)) none) Set.univ
      k0_t7_loop.lb k0_t7_loop.ub k0_t7_loop.st k0_t7_ok init
      (k0_t7_body (F := F) L xV (Memref.isWhole_whole _) oV (Memref.isWhole_whole _)
            bV (Memref.isWhole_whole _) aV (Memref.isWhole_whole _) cc0_scratch2 cc0_scratch3 cc0_scoped0 v2 a b c e g h i j w) where
  inv n acc := iprop(((slot0).view.loc (V d (cV L) (jV L)) ↦[(slot0).view.set]{fullShare} f) ∗ ⌜acc = st0 f init n⌝)
  step k acc := by
    iintro ⟨H, %hacc⟩
    subst hacc
    rw [st0_succ f init k]
    iapply (trip0_wp d L v2 a b c e g h i j f k _) $$ H

set_option warn.classDefReducibility false in
/-- The kernel's loop 9 by its invariant. -/
@[sl_loop] def loop9 (w : BitVec 32) (f : BufTy.Contents (Elt F) (slot0).view.ty) (init : Acc8 F) :
    LoopInv (M := 𝕄) frame (wpE (defs₀ (F := F)) 𝒱₀ (V d (cV L) (jV L)) none) Set.univ
      k0_t9_loop.lb k0_t9_loop.ub k0_t9_loop.st k0_t9_ok init
      (k0_t9_body (F := F) L xV (Memref.isWhole_whole _) oV (Memref.isWhole_whole _)
            bV (Memref.isWhole_whole _) aV (Memref.isWhole_whole _) cc0_scratch2 cc0_scratch3 cc0_scoped0 v2 a b c e g h i j w) where
  inv n acc := iprop(((slot0).view.loc (V d (cV L) (jV L)) ↦[(slot0).view.set]{fullShare} f) ∗ ⌜acc = st0 f init n⌝)
  step k acc := by
    iintro ⟨H, %hacc⟩
    subst hacc
    rw [st0_succ f init k]
    iapply (trip0_wp d L v2 a b c e g h i j f k _) $$ H

end

/-- What a trip over slot 1 makes of the carried vectors. -/
def trip1 (f : BufTy.Contents (Elt F) (slot1).view.ty) (k : Fin k0_t2_loop.trips) (acc : Acc8 F) : Acc8 F :=
  (k0_pay17 acc.1 ((bV).view.readAt (Elt F) (Rect.unit (s := S2x400x128) (k0_off10 k) S1x1x16.size (k0_off10_inb k)).toLoadRect f), k0_pay18 acc.2.1 ((bV).view.readAt (Elt F) (Rect.unit (s := S2x400x128) (k0_off11 k) S1x1x16.size (k0_off11_inb k)).toLoadRect f), k0_pay19 acc.2.2.1 ((bV).view.readAt (Elt F) (Rect.unit (s := S2x400x128) (k0_off12 k) S1x1x16.size (k0_off12_inb k)).toLoadRect f), k0_pay20 acc.2.2.2.1 ((bV).view.readAt (Elt F) (Rect.unit (s := S2x400x128) (k0_off13 k) S1x1x16.size (k0_off13_inb k)).toLoadRect f), k0_pay21 acc.2.2.2.2.1 ((bV).view.readAt (Elt F) (Rect.unit (s := S2x400x128) (k0_off14 k) S1x1x16.size (k0_off14_inb k)).toLoadRect f), k0_pay22 acc.2.2.2.2.2.1 ((bV).view.readAt (Elt F) (Rect.unit (s := S2x400x128) (k0_off15 k) S1x1x16.size (k0_off15_inb k)).toLoadRect f), k0_pay23 acc.2.2.2.2.2.2.1 ((bV).view.readAt (Elt F) (Rect.unit (s := S2x400x128) (k0_off16 k) S1x1x16.size (k0_off16_inb k)).toLoadRect f), k0_pay24 acc.2.2.2.2.2.2.2 ((bV).view.readAt (Elt F) (Rect.unit (s := S2x400x128) (k0_off17 k) S1x1x16.size (k0_off17_inb k)).toLoadRect f))

/-- The carried vectors before trip `n` over slot 1. -/
def st1 (f : BufTy.Contents (Elt F) (slot1).view.ty) (init : Acc8 F) : ℕ → Acc8 F
  | 0 => init
  | n + 1 => if h : n < k0_t2_loop.trips then trip1 f ⟨n, h⟩ (st1 f init n) else st1 f init n

theorem st1_succ (f : BufTy.Contents (Elt F) (slot1).view.ty) (init : Acc8 F) (k : Fin k0_t2_loop.trips) :
    st1 f init (k.val + 1) = trip1 f k (st1 f init k.val) := dif_pos k.isLt

section
variable (d : Dev nD) (L : grid0.Coords) (v2 : BitVec 32) (a b c e g h i j : FVec F S16 .f32)

/-- One trip over slot 1. -/
theorem trip1_wp (f : BufTy.Contents (Elt F) (slot1).view.ty) (k : Fin k0_t2_loop.trips) (acc : Acc8 F) :
    ((slot1).view.loc (V d (cV L) (jV L)) ↦[(slot1).view.set]{fullShare} f : sProp 𝕄) ⊢
      wp frame (wpE (defs₀ (F := F)) 𝒱₀ (V d (cV L) (jV L)) none) Set.univ
        (k0_t2_body (F := F) L xV (Memref.isWhole_whole _) oV (Memref.isWhole_whole _)
            bV (Memref.isWhole_whole _) aV (Memref.isWhole_whole _) cc0_scratch2 cc0_scratch3 cc0_scoped0 v2 a b c e g h i j k acc)
        (fun yld => iprop(((slot1).view.loc (V d (cV L) (jV L)) ↦[(slot1).view.set]{fullShare} f) ∗ ⌜yld = trip1 f k acc⌝)) := by
  have hk : k.val < 400 := Nat.lt_of_lt_of_le k.isLt k0_t2_abs.2.1
  unfold k0_t2_body
  iintro H
  sl_exec
  sl_step
  isplitl [H]; · iexact H
  ipureintro; rfl

set_option warn.classDefReducibility false in
/-- The kernel's loop 2 by its invariant. -/
@[sl_loop] def loop2 (f : BufTy.Contents (Elt F) (slot1).view.ty) (init : Acc8 F) :
    LoopInv (M := 𝕄) frame (wpE (defs₀ (F := F)) 𝒱₀ (V d (cV L) (jV L)) none) Set.univ
      k0_t2_loop.lb k0_t2_loop.ub k0_t2_loop.st k0_t2_ok init
      (k0_t2_body (F := F) L xV (Memref.isWhole_whole _) oV (Memref.isWhole_whole _)
            bV (Memref.isWhole_whole _) aV (Memref.isWhole_whole _) cc0_scratch2 cc0_scratch3 cc0_scoped0 v2 a b c e g h i j) where
  inv n acc := iprop(((slot1).view.loc (V d (cV L) (jV L)) ↦[(slot1).view.set]{fullShare} f) ∗ ⌜acc = st1 f init n⌝)
  step k acc := by
    iintro ⟨H, %hacc⟩
    subst hacc
    rw [st1_succ f init k]
    iapply (trip1_wp d L v2 a b c e g h i j f k _) $$ H

set_option warn.classDefReducibility false in
/-- The kernel's loop 4 by its invariant. -/
@[sl_loop] def loop4 (f : BufTy.Contents (Elt F) (slot1).view.ty) (init : Acc8 F) :
    LoopInv (M := 𝕄) frame (wpE (defs₀ (F := F)) 𝒱₀ (V d (cV L) (jV L)) none) Set.univ
      k0_t4_loop.lb k0_t4_loop.ub k0_t4_loop.st k0_t4_ok init
      (k0_t4_body (F := F) L xV (Memref.isWhole_whole _) oV (Memref.isWhole_whole _)
            bV (Memref.isWhole_whole _) aV (Memref.isWhole_whole _) cc0_scratch2 cc0_scratch3 cc0_scoped0 v2 a b c e g h i j) where
  inv n acc := iprop(((slot1).view.loc (V d (cV L) (jV L)) ↦[(slot1).view.set]{fullShare} f) ∗ ⌜acc = st1 f init n⌝)
  step k acc := by
    iintro ⟨H, %hacc⟩
    subst hacc
    rw [st1_succ f init k]
    iapply (trip1_wp d L v2 a b c e g h i j f k _) $$ H

set_option warn.classDefReducibility false in
/-- The kernel's loop 6 by its invariant. -/
@[sl_loop] def loop6 (f : BufTy.Contents (Elt F) (slot1).view.ty) (init : Acc8 F) :
    LoopInv (M := 𝕄) frame (wpE (defs₀ (F := F)) 𝒱₀ (V d (cV L) (jV L)) none) Set.univ
      k0_t6_loop.lb k0_t6_loop.ub k0_t6_loop.st k0_t6_ok init
      (k0_t6_body (F := F) L xV (Memref.isWhole_whole _) oV (Memref.isWhole_whole _)
            bV (Memref.isWhole_whole _) aV (Memref.isWhole_whole _) cc0_scratch2 cc0_scratch3 cc0_scoped0 v2 a b c e g h i j) where
  inv n acc := iprop(((slot1).view.loc (V d (cV L) (jV L)) ↦[(slot1).view.set]{fullShare} f) ∗ ⌜acc = st1 f init n⌝)
  step k acc := by
    iintro ⟨H, %hacc⟩
    subst hacc
    rw [st1_succ f init k]
    iapply (trip1_wp d L v2 a b c e g h i j f k _) $$ H

set_option warn.classDefReducibility false in
/-- The kernel's loop 8 by its invariant. -/
@[sl_loop] def loop8 (w : BitVec 32) (f : BufTy.Contents (Elt F) (slot1).view.ty) (init : Acc8 F) :
    LoopInv (M := 𝕄) frame (wpE (defs₀ (F := F)) 𝒱₀ (V d (cV L) (jV L)) none) Set.univ
      k0_t8_loop.lb k0_t8_loop.ub k0_t8_loop.st k0_t8_ok init
      (k0_t8_body (F := F) L xV (Memref.isWhole_whole _) oV (Memref.isWhole_whole _)
            bV (Memref.isWhole_whole _) aV (Memref.isWhole_whole _) cc0_scratch2 cc0_scratch3 cc0_scoped0 v2 a b c e g h i j w) where
  inv n acc := iprop(((slot1).view.loc (V d (cV L) (jV L)) ↦[(slot1).view.set]{fullShare} f) ∗ ⌜acc = st1 f init n⌝)
  step k acc := by
    iintro ⟨H, %hacc⟩
    subst hacc
    rw [st1_succ f init k]
    iapply (trip1_wp d L v2 a b c e g h i j f k _) $$ H

set_option warn.classDefReducibility false in
/-- The kernel's loop 10 by its invariant. -/
@[sl_loop] def loop10 (w : BitVec 32) (f : BufTy.Contents (Elt F) (slot1).view.ty) (init : Acc8 F) :
    LoopInv (M := 𝕄) frame (wpE (defs₀ (F := F)) 𝒱₀ (V d (cV L) (jV L)) none) Set.univ
      k0_t10_loop.lb k0_t10_loop.ub k0_t10_loop.st k0_t10_ok init
      (k0_t10_body (F := F) L xV (Memref.isWhole_whole _) oV (Memref.isWhole_whole _)
            bV (Memref.isWhole_whole _) aV (Memref.isWhole_whole _) cc0_scratch2 cc0_scratch3 cc0_scoped0 v2 a b c e g h i j w) where
  inv n acc := iprop(((slot1).view.loc (V d (cV L) (jV L)) ↦[(slot1).view.set]{fullShare} f) ∗ ⌜acc = st1 f init n⌝)
  step k acc := by
    iintro ⟨H, %hacc⟩
    subst hacc
    rw [st1_succ f init k]
    iapply (trip1_wp d L v2 a b c e g h i j f k _) $$ H

end

end Cert.Proof.K

end
-- ==== Proof.TileVal.lean ====
/-
  What the loops of the SparseCore kernel compute: lane by lane the fold of a run of rows of x.
-/
module

public import proofs.«01_k».proof.Proof.Trip
public import Idealize.ShloMosaic.Lib.Pointwise.Index
public import Idealize.ShloMosaic.Lib.ValueLayout

@[expose] public section

noncomputable section

namespace Cert.Proof.K

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
local notation "xV" => (Memref.whole Cert.KernelIdeal.main_arg0_scv : Memref Cert.KernelIdeal.sig Kind.scVector Space.hbm Cert.KernelIdeal.S320000x128 EltTy.f32)
local notation "oV" => (Memref.whole Cert.KernelIdeal.main_v0_scv : Memref Cert.KernelIdeal.sig Kind.scVector Space.hbm Cert.KernelIdeal.S32x8x16 EltTy.f32)
local notation "bV" => (Memref.whole Cert.KernelIdeal.cc0_scratch0 : Memref Cert.KernelIdeal.sig Kind.scVector Space.vmem Cert.KernelIdeal.S2x400x128 EltTy.f32)
local notation "aV" => (Memref.whole Cert.KernelIdeal.cc0_scratch1 : Memref Cert.KernelIdeal.sig Kind.scVector Space.vmem Cert.KernelIdeal.S8x16 EltTy.f32)

/-- Row `r`, column `c` of x. -/
def at2 (x : S320000x128.Idx → F .f32) (r c : ℕ) : F .f32 := x (ix2 (Fin.ofNat 320000 r) (Fin.ofNat 128 c))

/-- Column `c` summed over the `n` rows from `base`, in the rows' order, from zero. -/
def foldRows (x : S320000x128.Idx → F .f32) (base c : ℕ) : ℕ → F .f32
  | 0 => Scalar.ofBits .f32 0x00000000#32
  | n + 1 => FloatOps.addf (foldRows x base c n) (at2 x (base + n) c)

/-- The eight carried vectors after `n` rows from `base`. -/
def accN (x : S320000x128.Idx → F .f32) (base n : ℕ) : Acc8 F :=
  (fun j => foldRows x base (0 + (j 0).val) n, fun j => foldRows x base (16 + (j 0).val) n, fun j => foldRows x base (32 + (j 0).val) n, fun j => foldRows x base (48 + (j 0).val) n, fun j => foldRows x base (64 + (j 0).val) n, fun j => foldRows x base (80 + (j 0).val) n, fun j => foldRows x base (96 + (j 0).val) n, fun j => foldRows x base (112 + (j 0).val) n)

/-- A load of sixteen lanes of row `r` of slot 0 reads what the slot's own view reads there. -/
theorem slot0_readAt (f : BufTy.Contents (Elt F) (slot0).view.ty) (off : Fin 3 → ℕ) (inb : ∀ a, off a + S1x1x16.size a ≤ S2x400x128.size a)
    (r g : ℕ) (hoff : off = ![0, r, g]) (hr : r < 400) (hg : g + 16 ≤ 128) (j : S1x1x16.Idx) :
    (bV).view.readAt (Elt F) (Rect.unit (s := S2x400x128) off S1x1x16.size inb).toLoadRect f j
      = (slot0).view.read (Elt F) f (ix2 ⟨r, hr⟩ ⟨g + (j 2).val, by have h : (j 2).val < 16 := (j 2).isLt; omega⟩) := by
  subst hoff
  show f _ = f _
  refine congrArg f (funext fun a => Fin.ext ?_)
  have h1 : (j 1).val = 0 := Nat.lt_one_iff.mp (j 1).isLt
  have h0 : (j 0).val = 0 := Nat.lt_one_iff.mp (j 0).isLt
  have e : Shape.reshapeEquiv (squeezes_S1x400x128_S400x128).numel_eq (ix2 (⟨r, hr⟩ : Fin 400) (⟨g + (j 2).val, by have h : (j 2).val < 16 := (j 2).isLt; omega⟩ : Fin 128))
      = ix3 (⟨0, Nat.one_pos⟩ : Fin 1) (⟨r, hr⟩ : Fin 400) (⟨g + (j 2).val, by have h : (j 2).val < 16 := (j 2).isLt; omega⟩ : Fin 128) :=
    Shape.reshapeEquiv_eq_of_rowMajor _ (by
      rw [Shape.rowMajor_val_three, Shape.rowMajor_val_two]
      show (0 * 400 + r) * 128 + (g + (j 2).val) = r * 128 + (g + (j 2).val)
      omega)
  show _ = ((Rect.unit (s := S2x400x128) ![0, 0, 0] S1x400x128.size inb_S2x400x128_S1x400x128_0_0_0).emb (Shape.reshapeEquiv (squeezes_S1x400x128_S400x128).numel_eq (ix2 ⟨r, hr⟩ ⟨g + (j 2).val, _⟩)) a).val
  rw [e]
  match a with
  | ⟨0, _⟩ => show 0 + 1 * (j 0).val = 0 + 1 * 0; omega
  | ⟨1, _⟩ => show r + 1 * (j 1).val = 0 + 1 * r; omega
  | ⟨2, _⟩ => show g + 1 * (j 2).val = 0 + 1 * (g + (j 2).val); omega

/-- A load of sixteen lanes of row `r` of slot 1 reads what the slot's own view reads there. -/
theorem slot1_readAt (f : BufTy.Contents (Elt F) (slot1).view.ty) (off : Fin 3 → ℕ) (inb : ∀ a, off a + S1x1x16.size a ≤ S2x400x128.size a)
    (r g : ℕ) (hoff : off = ![1, r, g]) (hr : r < 400) (hg : g + 16 ≤ 128) (j : S1x1x16.Idx) :
    (bV).view.readAt (Elt F) (Rect.unit (s := S2x400x128) off S1x1x16.size inb).toLoadRect f j
      = (slot1).view.read (Elt F) f (ix2 ⟨r, hr⟩ ⟨g + (j 2).val, by have h : (j 2).val < 16 := (j 2).isLt; omega⟩) := by
  subst hoff
  show f _ = f _
  refine congrArg f (funext fun a => Fin.ext ?_)
  have h1 : (j 1).val = 0 := Nat.lt_one_iff.mp (j 1).isLt
  have h0 : (j 0).val = 0 := Nat.lt_one_iff.mp (j 0).isLt
  have e : Shape.reshapeEquiv (squeezes_S1x400x128_S400x128).numel_eq (ix2 (⟨r, hr⟩ : Fin 400) (⟨g + (j 2).val, by have h : (j 2).val < 16 := (j 2).isLt; omega⟩ : Fin 128))
      = ix3 (⟨0, Nat.one_pos⟩ : Fin 1) (⟨r, hr⟩ : Fin 400) (⟨g + (j 2).val, by have h : (j 2).val < 16 := (j 2).isLt; omega⟩ : Fin 128) :=
    Shape.reshapeEquiv_eq_of_rowMajor _ (by
      rw [Shape.rowMajor_val_three, Shape.rowMajor_val_two]
      show (0 * 400 + r) * 128 + (g + (j 2).val) = r * 128 + (g + (j 2).val)
      omega)
  show _ = ((Rect.unit (s := S2x400x128) ![1, 0, 0] S1x400x128.size inb_S2x400x128_S1x400x128_1_0_0).emb (Shape.reshapeEquiv (squeezes_S1x400x128_S400x128).numel_eq (ix2 ⟨r, hr⟩ ⟨g + (j 2).val, _⟩)) a).val
  rw [e]
  match a with
  | ⟨0, _⟩ => show 1 + 1 * (j 0).val = 1 + 1 * 0; omega
  | ⟨1, _⟩ => show r + 1 * (j 1).val = 0 + 1 * r; omega
  | ⟨2, _⟩ => show g + 1 * (j 2).val = 0 + 1 * (g + (j 2).val); omega

/-- One lane of a trip over slot 0. -/
theorem lane0 (x : S320000x128.Idx → F .f32) (base m n g : ℕ) (f : BufTy.Contents (Elt F) (slot0).view.ty) (hg : g + 16 ≤ 128) (hn : n < 400)
    (hf : ∀ y : S400x128.Idx, (slot0).view.read (Elt F) f y = at2 x (base + (m + (y 0).val)) (y 1).val)
    (off : Fin 3 → ℕ) (inb : ∀ a, off a + S1x1x16.size a ≤ S2x400x128.size a) (hoff : off = ![0, n, g]) :
    addf (fun j : S16.Idx => foldRows x base (g + (j 0).val) (m + n)) (shapeCast S16 ((bV).view.readAt (Elt F) (Rect.unit (s := S2x400x128) off S1x1x16.size inb).toLoadRect f) shapeCasts_S1x1x16_S16)
      = fun j : S16.Idx => foldRows x base (g + (j 0).val) (m + n + 1) := by
  funext j
  show FloatOps.addf (foldRows x base (g + (j 0).val) (m + n)) _ = FloatOps.addf _ _
  refine congrArg (FloatOps.addf _) ?_
  refine (shapeCast_apply _ shapeCasts_S1x1x16_S16 j (ix3 (⟨0, Nat.one_pos⟩ : Fin 1) (⟨0, Nat.one_pos⟩ : Fin 1) (j 0)) ?_).trans
    ((slot0_readAt f off inb n g hoff hn hg _).trans ((hf _).trans rfl))
  rw [Shape.rowMajor_val_three, Shape.rowMajor_val_one]
  show (0 * 1 + 0) * 16 + (j 0).val = (j 0).val
  omega

/-- A trip over slot 0 adds one row. -/
theorem trip0_accN (x : S320000x128.Idx → F .f32) (base m : ℕ) (f : BufTy.Contents (Elt F) (slot0).view.ty)
    (hf : ∀ y : S400x128.Idx, (slot0).view.read (Elt F) f y = at2 x (base + (m + (y 0).val)) (y 1).val) (k : Fin k0_t1_loop.trips) :
    trip0 f k (accN x base (m + k.val)) = accN x base (m + k.val + 1) := by
  have hk : k.val < 400 := Nat.lt_of_lt_of_le k.isLt k0_t1_abs.2.1
  refine (Prod.ext ?_ (Prod.ext ?_ (Prod.ext ?_ (Prod.ext ?_ (Prod.ext ?_ (Prod.ext ?_ (Prod.ext ?_ ?_)))))))
  · exact lane0 x base m k.val 0 f (by decide) hk hf _ _ (k0_off2_eq k)
  · exact lane0 x base m k.val 16 f (by decide) hk hf _ _ (k0_off3_eq k)
  · exact lane0 x base m k.val 32 f (by decide) hk hf _ _ (k0_off4_eq k)
  · exact lane0 x base m k.val 48 f (by decide) hk hf _ _ (k0_off5_eq k)
  · exact lane0 x base m k.val 64 f (by decide) hk hf _ _ (k0_off6_eq k)
  · exact lane0 x base m k.val 80 f (by decide) hk hf _ _ (k0_off7_eq k)
  · exact lane0 x base m k.val 96 f (by decide) hk hf _ _ (k0_off8_eq k)
  · exact lane0 x base m k.val 112 f (by decide) hk hf _ _ (k0_off9_eq k)

/-- A loop over slot 0 adds its rows. -/
theorem st0_accN (x : S320000x128.Idx → F .f32) (base m : ℕ) (f : BufTy.Contents (Elt F) (slot0).view.ty)
    (hf : ∀ y : S400x128.Idx, (slot0).view.read (Elt F) f y = at2 x (base + (m + (y 0).val)) (y 1).val) :
    ∀ n, n ≤ k0_t1_loop.trips → st0 f (accN x base m) n = accN x base (m + n)
  | 0, _ => rfl
  | n + 1, h => by
    rw [st0_succ f _ ⟨n, h⟩, st0_accN x base m f hf n (Nat.le_of_lt h)]
    exact trip0_accN x base m f hf ⟨n, h⟩

/-- One lane of a trip over slot 1. -/
theorem lane1 (x : S320000x128.Idx → F .f32) (base m n g : ℕ) (f : BufTy.Contents (Elt F) (slot1).view.ty) (hg : g + 16 ≤ 128) (hn : n < 400)
    (hf : ∀ y : S400x128.Idx, (slot1).view.read (Elt F) f y = at2 x (base + (m + (y 0).val)) (y 1).val)
    (off : Fin 3 → ℕ) (inb : ∀ a, off a + S1x1x16.size a ≤ S2x400x128.size a) (hoff : off = ![1, n, g]) :
    addf (fun j : S16.Idx => foldRows x base (g + (j 0).val) (m + n)) (shapeCast S16 ((bV).view.readAt (Elt F) (Rect.unit (s := S2x400x128) off S1x1x16.size inb).toLoadRect f) shapeCasts_S1x1x16_S16)
      = fun j : S16.Idx => foldRows x base (g + (j 0).val) (m + n + 1) := by
  funext j
  show FloatOps.addf (foldRows x base (g + (j 0).val) (m + n)) _ = FloatOps.addf _ _
  refine congrArg (FloatOps.addf _) ?_
  refine (shapeCast_apply _ shapeCasts_S1x1x16_S16 j (ix3 (⟨0, Nat.one_pos⟩ : Fin 1) (⟨0, Nat.one_pos⟩ : Fin 1) (j 0)) ?_).trans
    ((slot1_readAt f off inb n g hoff hn hg _).trans ((hf _).trans rfl))
  rw [Shape.rowMajor_val_three, Shape.rowMajor_val_one]
  show (0 * 1 + 0) * 16 + (j 0).val = (j 0).val
  omega

/-- A trip over slot 1 adds one row. -/
theorem trip1_accN (x : S320000x128.Idx → F .f32) (base m : ℕ) (f : BufTy.Contents (Elt F) (slot1).view.ty)
    (hf : ∀ y : S400x128.Idx, (slot1).view.read (Elt F) f y = at2 x (base + (m + (y 0).val)) (y 1).val) (k : Fin k0_t2_loop.trips) :
    trip1 f k (accN x base (m + k.val)) = accN x base (m + k.val + 1) := by
  have hk : k.val < 400 := Nat.lt_of_lt_of_le k.isLt k0_t2_abs.2.1
  refine (Prod.ext ?_ (Prod.ext ?_ (Prod.ext ?_ (Prod.ext ?_ (Prod.ext ?_ (Prod.ext ?_ (Prod.ext ?_ ?_)))))))
  · exact lane1 x base m k.val 0 f (by decide) hk hf _ _ (k0_off10_eq k)
  · exact lane1 x base m k.val 16 f (by decide) hk hf _ _ (k0_off11_eq k)
  · exact lane1 x base m k.val 32 f (by decide) hk hf _ _ (k0_off12_eq k)
  · exact lane1 x base m k.val 48 f (by decide) hk hf _ _ (k0_off13_eq k)
  · exact lane1 x base m k.val 64 f (by decide) hk hf _ _ (k0_off14_eq k)
  · exact lane1 x base m k.val 80 f (by decide) hk hf _ _ (k0_off15_eq k)
  · exact lane1 x base m k.val 96 f (by decide) hk hf _ _ (k0_off16_eq k)
  · exact lane1 x base m k.val 112 f (by decide) hk hf _ _ (k0_off17_eq k)

/-- A loop over slot 1 adds its rows. -/
theorem st1_accN (x : S320000x128.Idx → F .f32) (base m : ℕ) (f : BufTy.Contents (Elt F) (slot1).view.ty)
    (hf : ∀ y : S400x128.Idx, (slot1).view.read (Elt F) f y = at2 x (base + (m + (y 0).val)) (y 1).val) :
    ∀ n, n ≤ k0_t2_loop.trips → st1 f (accN x base m) n = accN x base (m + n)
  | 0, _ => rfl
  | n + 1, h => by
    rw [st1_succ f _ ⟨n, h⟩, st1_accN x base m f hf n (Nat.le_of_lt h)]
    exact trip1_accN x base m f hf ⟨n, h⟩

end Cert.Proof.K
end
-- ==== Proof.Tile.lean ====
module

public import proofs.«01_k».proof.Proof.TileVal

@[expose] public section

noncomputable section

namespace Cert.Proof.K

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
local notation "xV" => (Memref.whole Cert.KernelIdeal.main_arg0_scv : Memref Cert.KernelIdeal.sig Kind.scVector Space.hbm Cert.KernelIdeal.S320000x128 EltTy.f32)
local notation "oV" => (Memref.whole Cert.KernelIdeal.main_v0_scv : Memref Cert.KernelIdeal.sig Kind.scVector Space.hbm Cert.KernelIdeal.S32x8x16 EltTy.f32)
local notation "bV" => (Memref.whole Cert.KernelIdeal.cc0_scratch0 : Memref Cert.KernelIdeal.sig Kind.scVector Space.vmem Cert.KernelIdeal.S2x400x128 EltTy.f32)
local notation "aV" => (Memref.whole Cert.KernelIdeal.cc0_scratch1 : Memref Cert.KernelIdeal.sig Kind.scVector Space.vmem Cert.KernelIdeal.S8x16 EltTy.f32)

abbrev xLoc (d : Dev nD) : Loc nD τ sig := (SparseCore.T d).loc main_arg0
abbrev oLoc (d : Dev nD) : Loc nD τ sig := (SparseCore.T d).loc main_v0

variable (d : Dev nD) (L : grid0.Coords)

abbrev orowK (L : grid0.Coords) : Rect S32x8x16 := Rect.unit (s := S32x8x16) (k0_off82 L) S1x8x16.size (k0_off82_inb L)
abbrev oRowK (L : grid0.Coords) : Memref sig .scVector .hbm S8x16 .f32 := ((oV).slice (orowK L) (fun _ => rfl)).squeeze S8x16 squeezes_S1x8x16_S8x16

/-- The first row of x that tile `L` sums. -/
def tbase (L : grid0.Coords) : ℕ := 64000 * (L 0).val + 4000 * (L 1).val

/-- The rectangle of x that a chunk's copy reads. -/
theorem chunk_read (x : S320000x128.Idx → F .f32) (r : ℕ) (off : Fin 2 → ℕ) (inb : ∀ a, off a + S400x128.size a ≤ S320000x128.size a)
    (hoff : off = ![64000 * (L 0).val + 4000 * (L 1).val + 400 * r, 0]) (y : S400x128.Idx) :
    ((xV).slice (Rect.unit (s := S320000x128) off S400x128.size inb) (fun _ => rfl)).view.read (Elt F) x y
      = at2 x (tbase L + (400 * r + (y 0).val)) (y 1).val := by
  subst hoff
  have h0 : 64000 * (L 0).val + 4000 * (L 1).val + 400 * r + 400 ≤ 320000 := inb 0
  have y0 : (y 0).val < 400 := (y 0).isLt
  have y1 : (y 1).val < 128 := (y 1).isLt
  show x _ = x _
  refine congrArg x (funext fun a => Fin.ext ?_)
  match a with
  | ⟨0, _⟩ =>
    show 64000 * (L 0).val + 4000 * (L 1).val + 400 * r + 1 * (y 0).val = (tbase L + (400 * r + (y 0).val)) % 320000
    rw [tbase, Nat.mod_eq_of_lt (by omega)]; omega
  | ⟨1, _⟩ => show 0 + 1 * (y 1).val = (y 1).val % 128; omega

/-- A view just filled by a copy of its whole shape reads what the copy brought. -/
theorem read_filled {κ : Kind} {sp : Space} {s : Shape} {e : EltTy} (v : View sig κ sp s e) (f : v.ty.Contents (Elt F)) (p : s.Idx → Elt F e)
    (rest : List (View.Piece (Elt F) s e)) (y : s.Idx) : v.read (Elt F) (v.writes (Elt F) f (⟨Rect.whole s, p⟩ :: rest)) y = p y := by
  have e : (Rect.whole s).emb y = y := funext fun a => Fin.ext (by show 0 + 1 * (y a).val = (y a).val; omega)
  exact (congrArg _ e.symm).trans (View.read_writes_cons_emb v f (Rect.whole s) p rest y)

/-- What tile `L` leaves in its row of the partial sums. -/
def tileOut (x : S320000x128.Idx → F .f32) (L : grid0.Coords) (p : S8x16.Idx) : F .f32 := foldRows x (tbase L) (16 * (p 0).val + (p 1).val) 4000

/-- The eight rows that the tile stores, read back. -/
theorem rows_read (x : S320000x128.Idx → F .f32) (f : BufTy.Contents (Elt F) (aV).view.ty) (acc : Acc8 F) (hacc : acc = accN x (tbase L) 4000) (y : S8x16.Idx) :
    (aV).view.read (Elt F) ((aV).view.writes (Elt F) f
      [⟨Rect.unit (s := S8x16) ![7, 0] S1x16.size inb_S8x16_S1x16_7_0, k0_pay96 acc.2.2.2.2.2.2.2⟩, ⟨Rect.unit (s := S8x16) ![6, 0] S1x16.size inb_S8x16_S1x16_6_0, k0_pay95 acc.2.2.2.2.2.2.1⟩, ⟨Rect.unit (s := S8x16) ![5, 0] S1x16.size inb_S8x16_S1x16_5_0, k0_pay94 acc.2.2.2.2.2.1⟩, ⟨Rect.unit (s := S8x16) ![4, 0] S1x16.size inb_S8x16_S1x16_4_0, k0_pay93 acc.2.2.2.2.1⟩, ⟨Rect.unit (s := S8x16) ![3, 0] S1x16.size inb_S8x16_S1x16_3_0, k0_pay92 acc.2.2.2.1⟩, ⟨Rect.unit (s := S8x16) ![2, 0] S1x16.size inb_S8x16_S1x16_2_0, k0_pay91 acc.2.2.1⟩, ⟨Rect.unit (s := S8x16) ![1, 0] S1x16.size inb_S8x16_S1x16_1_0, k0_pay90 acc.2.1⟩, ⟨Rect.unit (s := S8x16) ![0, 0] S1x16.size inb_S8x16_S1x16_0_0, k0_pay89 acc.1⟩]) y
      = tileOut x L y := by
  subst hacc
  refine View.read_writes_apply_of_pieces (aV).view f (tileOut x L) _ ?_ y ?_
  · have key : ∀ (g : ℕ) (h : ∀ a, (![g, 0] : Fin 2 → ℕ) a + S1x16.size a ≤ S8x16.size a) (z : S1x16.Idx),
        shapeCast S1x16 (fun j : S16.Idx => foldRows x (tbase L) (16 * g + (j 0).val) 4000) shapeCasts_S16_S1x16 z
          = tileOut x L ((Rect.unit (s := S8x16) ![g, 0] S1x16.size h).emb z) := by
      intro g h z
      have z0 : (z 0).val = 0 := Nat.lt_one_iff.mp (z 0).isLt
      refine (shapeCast_apply _ shapeCasts_S16_S1x16 z (ix1 (z 1)) ?_).trans ?_
      · rw [Shape.rowMajor_val_two, Shape.rowMajor_val_one]
        show (z 1).val = (z 0).val * 16 + (z 1).val
        omega
      · show foldRows x (tbase L) (16 * g + (z 1).val) 4000 = foldRows x (tbase L) (16 * (g + 1 * (z 0).val) + (0 + 1 * (z 1).val)) 4000
        congr 1; omega
    simp only [List.forall_mem_cons, List.not_mem_nil, false_imp_iff, implies_true, and_true]
    exact ⟨key 7 _, key 6 _, key 5 _, key 4 _, key 3 _, key 2 _, key 1 _, key 0 _⟩
  · have y0 : (y 0).val < 8 := (y 0).isLt
    have key : ∀ (g : ℕ) (h : ∀ a, (![g, 0] : Fin 2 → ℕ) a + S1x16.size a ≤ S8x16.size a), (y 0).val = g → y ∈ (Rect.unit (s := S8x16) ![g, 0] S1x16.size h).set := by
      intro g h e
      refine Rect.mem_set_unit.mpr fun a => ?_
      match a with
      | ⟨0, _⟩ => exact ⟨by show g ≤ (y 0).val; omega, by show (y 0).val < g + 1; omega⟩
      | ⟨1, _⟩ => exact ⟨Nat.zero_le _, by show (y 1).val < 0 + 16; have h : (y 1).val < 16 := (y 1).isLt; omega⟩
    have h8 : (y 0).val = 7 ∨ (y 0).val = 6 ∨ (y 0).val = 5 ∨ (y 0).val = 4 ∨ (y 0).val = 3 ∨ (y 0).val = 2 ∨ (y 0).val = 1 ∨ (y 0).val = 0 := by omega
    rcases h8 with h | h | h | h | h | h | h | h
    · exact ⟨_, .head _, key 7 inb_S8x16_S1x16_7_0 h⟩
    · exact ⟨_, .tail _ (.head _), key 6 inb_S8x16_S1x16_6_0 h⟩
    · exact ⟨_, .tail _ (.tail _ (.head _)), key 5 inb_S8x16_S1x16_5_0 h⟩
    · exact ⟨_, .tail _ (.tail _ (.tail _ (.head _))), key 4 inb_S8x16_S1x16_4_0 h⟩
    · exact ⟨_, .tail _ (.tail _ (.tail _ (.tail _ (.head _)))), key 3 inb_S8x16_S1x16_3_0 h⟩
    · exact ⟨_, .tail _ (.tail _ (.tail _ (.tail _ (.tail _ (.head _))))), key 2 inb_S8x16_S1x16_2_0 h⟩
    · exact ⟨_, .tail _ (.tail _ (.tail _ (.tail _ (.tail _ (.tail _ (.head _)))))), key 1 inb_S8x16_S1x16_1_0 h⟩
    · exact ⟨_, .tail _ (.tail _ (.tail _ (.tail _ (.tail _ (.tail _ (.tail _ (.head _))))))), key 0 inb_S8x16_S1x16_0_0 h⟩

set_option maxHeartbeats 4000000 in
/-- The whole kernel on one tile. -/
theorem tile_run (q : PosShare TreeShare) (x : Buf (Elt F) (xLoc d)) (fo : Buf (Elt F) (oLoc d)) (f0 f1 : BufTy.Contents (Elt F) (slot0).view.ty)
   (fa : BufTy.Contents (Elt F) (aV).view.ty)
    (O : CellTallies nD τ sig (HIx 1)) (W : Waits sig (HIx 1)) :
    iprop(Transfers.MayWaits (V d (cV L) (jV L)) (default : HIx 1) O
        ∗ ((xV).view.loc (V d (cV L) (jV L)) ↦{q} x)
        ∗ ((oRowK L).view.loc (V d (cV L) (jV L)) ↦[(oRowK L).view.set]{fullShare} fo)
        ∗ ((slot0).view.loc (V d (cV L) (jV L)) ↦[(slot0).view.set]{fullShare} f0)
        ∗ ((slot1).view.loc (V d (cV L) (jV L)) ↦[(slot1).view.set]{fullShare} f1)
        ∗ ((aV).view.loc (V d (cV L) (jV L)) ↦{fullShare} fa)
        ∗ semVal (V d (cV L) (jV L), SemLoc.dma cc0_scratch2.sem) 0
        ∗ semVal (V d (cV L) (jV L), SemLoc.dma cc0_scratch3.sem) 0
        ∗ semVal (V d (cV L) (jV L), SemLoc.dma cc0_scoped0.sem) 0
        ∗ owes (V d (cV L) (jV L)) O W)
      ⊢ wp frame (wpE (defs₀ (F := F)) 𝒱₀ (V d (cV L) (jV L)) none) Set.univ
          (cc0__sc_partials L xV (Memref.isWhole_whole _) oV (Memref.isWhole_whole _)
            bV (Memref.isWhole_whole _) aV (Memref.isWhole_whole _) cc0_scratch2 cc0_scratch3 cc0_scoped0)
          fun _ => (iprop(∃ (g : Buf (Elt F) (oLoc d)) (g0 g1 : BufTy.Contents (Elt F) (slot0).view.ty) (ga : BufTy.Contents (Elt F) (aV).view.ty) (W' : Waits sig (HIx 1)),
            ⌜(∀ p, p ∈ W' → p ∈ W ∨ p.2 = default) ∧ ∀ p, (oRowK L).view.read (Elt F) g p = tileOut x L p⌝
            ∗ ((xV).view.loc (V d (cV L) (jV L)) ↦{q} x)
            ∗ ((oRowK L).view.loc (V d (cV L) (jV L)) ↦[(oRowK L).view.set]{fullShare} g)
            ∗ ((slot0).view.loc (V d (cV L) (jV L)) ↦[(slot0).view.set]{fullShare} g0)
            ∗ ((slot1).view.loc (V d (cV L) (jV L)) ↦[(slot1).view.set]{fullShare} g1)
            ∗ ((aV).view.loc (V d (cV L) (jV L)) ↦{fullShare} ga)
            ∗ semVal (V d (cV L) (jV L), SemLoc.dma cc0_scratch2.sem) 0
            ∗ semVal (V d (cV L) (jV L), SemLoc.dma cc0_scratch3.sem) 0
            ∗ semVal (V d (cV L) (jV L), SemLoc.dma cc0_scoped0.sem) 0
            ∗ owes (V d (cV L) (jV L)) O W') : sProp 𝕄) := by
  rw [cc0__sc_partials_eq_skeleton]; unfold cc0__sc_partials_skel
  iintro ⟨#Hmw, Hx, Ho, H0, H1, Ha, HsA, HsB, HsC, HO⟩
  sl_exec
  sl_step
  have hn : k0_t1_loop.trips = 400 := rfl
  have hn' : k0_t2_loop.trips = 400 := rfl
  have c0 : ∀ y, tile_run.sl.dma0 d L x y = at2 x (tbase L + (0 + (y 0).val)) (y 1).val := fun y => chunk_read L x 0 _ _ (k0_off1_eq L 0) y
  have c1 : ∀ y, tile_run.sl.dma0_1 d L x y = at2 x (tbase L + (400 + (y 0).val)) (y 1).val := fun y => chunk_read L x 1 _ _ (k0_off1_eq L 1) y
  have c2 : ∀ y, tile_run.sl.dma0_2 d L x y = at2 x (tbase L + (800 + (y 0).val)) (y 1).val := fun y => chunk_read L x 2 _ _ (k0_off1_eq L 2) y
  have c3 : ∀ y, tile_run.sl.dma0_3 d L x y = at2 x (tbase L + (1200 + (y 0).val)) (y 1).val := fun y => chunk_read L x 3 _ _ (k0_off1_eq L 3) y
  have c4 : ∀ y, tile_run.sl.dma0_4 d L x y = at2 x (tbase L + (1600 + (y 0).val)) (y 1).val := fun y => chunk_read L x 4 _ _ (k0_off1_eq L 4) y
  have c5 : ∀ y, tile_run.sl.dma0_5 d L x y = at2 x (tbase L + (2000 + (y 0).val)) (y 1).val := fun y => chunk_read L x 5 _ _ (k0_off1_eq L 5) y
  have c6 : ∀ y, tile_run.sl.dma0_6 d L x y = at2 x (tbase L + (2400 + (y 0).val)) (y 1).val := fun y => chunk_read L x 6 _ _ (k0_off1_eq L 6) y
  have c7 : ∀ y, tile_run.sl.dma0_7 d L x y = at2 x (tbase L + (2800 + (y 0).val)) (y 1).val := fun y => chunk_read L x 7 _ _ (k0_off1_eq L 7) y
  have c8 : ∀ y, tile_run.sl.dma0_8 d L x y = at2 x (tbase L + (3200 + (y 0).val)) (y 1).val := fun y => chunk_read L x 8 _ _ (k0_off1_eq L 8) y
  have c9 : ∀ y, tile_run.sl.dma0_9 d L x y = at2 x (tbase L + (3600 + (y 0).val)) (y 1).val := fun y => chunk_read L x 9 _ _ (k0_off1_eq L 9) y
  have s0 : ∀ I : Acc8 F, I = accN x (tbase L) 0 → st0 ((slot0).view.writes (Elt F) (slot0).view.junk [⟨Rect.whole S400x128, tile_run.sl.dma0 d L x⟩]) I 400 = accN x (tbase L) 400 := fun I hI => by
    subst hI
    exact st0_accN x (tbase L) 0 _ (fun y => (read_filled _ _ _ _ y).trans (c0 y)) 400 (le_of_eq hn.symm)
  have s1 : ∀ I : Acc8 F, I = accN x (tbase L) 400 → st1 ((slot1).view.writes (Elt F) (slot1).view.junk [⟨Rect.whole S400x128, tile_run.sl.dma0_1 d L x⟩]) I 400 = accN x (tbase L) 800 := fun I hI => by
    subst hI
    exact st1_accN x (tbase L) 400 _ (fun y => (read_filled _ _ _ _ y).trans (c1 y)) 400 (le_of_eq hn'.symm)
  have s2 : ∀ I : Acc8 F, I = accN x (tbase L) 800 → st0 ((slot0).view.writes (Elt F) (slot0).view.junk [⟨Rect.whole S400x128, tile_run.sl.dma0_2 d L x⟩, ⟨Rect.whole S400x128, tile_run.sl.dma0 d L x⟩]) I 400 = accN x (tbase L) 1200 := fun I hI => by
    subst hI
    exact st0_accN x (tbase L) 800 _ (fun y => (read_filled _ _ _ _ y).trans (c2 y)) 400 (le_of_eq hn.symm)
  have s3 : ∀ I : Acc8 F, I = accN x (tbase L) 1200 → st1 ((slot1).view.writes (Elt F) (slot1).view.junk [⟨Rect.whole S400x128, tile_run.sl.dma0_3 d L x⟩, ⟨Rect.whole S400x128, tile_run.sl.dma0_1 d L x⟩]) I 400 = accN x (tbase L) 1600 := fun I hI => by
    subst hI
    exact st1_accN x (tbase L) 1200 _ (fun y => (read_filled _ _ _ _ y).trans (c3 y)) 400 (le_of_eq hn'.symm)
  have s4 : ∀ I : Acc8 F, I = accN x (tbase L) 1600 → st0 ((slot0).view.writes (Elt F) (slot0).view.junk [⟨Rect.whole S400x128, tile_run.sl.dma0_4 d L x⟩, ⟨Rect.whole S400x128, tile_run.sl.dma0_2 d L x⟩, ⟨Rect.whole S400x128, tile_run.sl.dma0 d L x⟩]) I 400 = accN x (tbase L) 2000 := fun I hI => by
    subst hI
    exact st0_accN x (tbase L) 1600 _ (fun y => (read_filled _ _ _ _ y).trans (c4 y)) 400 (le_of_eq hn.symm)
  have s5 : ∀ I : Acc8 F, I = accN x (tbase L) 2000 → st1 ((slot1).view.writes (Elt F) (slot1).view.junk [⟨Rect.whole S400x128, tile_run.sl.dma0_5 d L x⟩, ⟨Rect.whole S400x128, tile_run.sl.dma0_3 d L x⟩, ⟨Rect.whole S400x128, tile_run.sl.dma0_1 d L x⟩]) I 400 = accN x (tbase L) 2400 := fun I hI => by
    subst hI
    exact st1_accN x (tbase L) 2000 _ (fun y => (read_filled _ _ _ _ y).trans (c5 y)) 400 (le_of_eq hn'.symm)
  have s6 : ∀ I : Acc8 F, I = accN x (tbase L) 2400 → st0 ((slot0).view.writes (Elt F) (slot0).view.junk [⟨Rect.whole S400x128, tile_run.sl.dma0_6 d L x⟩, ⟨Rect.whole S400x128, tile_run.sl.dma0_4 d L x⟩, ⟨Rect.whole S400x128, tile_run.sl.dma0_2 d L x⟩, ⟨Rect.whole S400x128, tile_run.sl.dma0 d L x⟩]) I 400 = accN x (tbase L) 2800 := fun I hI => by
    subst hI
    exact st0_accN x (tbase L) 2400 _ (fun y => (read_filled _ _ _ _ y).trans (c6 y)) 400 (le_of_eq hn.symm)
  have s7 : ∀ I : Acc8 F, I = accN x (tbase L) 2800 → st1 ((slot1).view.writes (Elt F) (slot1).view.junk [⟨Rect.whole S400x128, tile_run.sl.dma0_7 d L x⟩, ⟨Rect.whole S400x128, tile_run.sl.dma0_5 d L x⟩, ⟨Rect.whole S400x128, tile_run.sl.dma0_3 d L x⟩, ⟨Rect.whole S400x128, tile_run.sl.dma0_1 d L x⟩]) I 400 = accN x (tbase L) 3200 := fun I hI => by
    subst hI
    exact st1_accN x (tbase L) 2800 _ (fun y => (read_filled _ _ _ _ y).trans (c7 y)) 400 (le_of_eq hn'.symm)
  have s8 : ∀ I : Acc8 F, I = accN x (tbase L) 3200 → st0 ((slot0).view.writes (Elt F) (slot0).view.junk [⟨Rect.whole S400x128, tile_run.sl.dma0_8 d L x⟩, ⟨Rect.whole S400x128, tile_run.sl.dma0_6 d L x⟩, ⟨Rect.whole S400x128, tile_run.sl.dma0_4 d L x⟩, ⟨Rect.whole S400x128, tile_run.sl.dma0_2 d L x⟩, ⟨Rect.whole S400x128, tile_run.sl.dma0 d L x⟩]) I 400 = accN x (tbase L) 3600 := fun I hI => by
    subst hI
    exact st0_accN x (tbase L) 3200 _ (fun y => (read_filled _ _ _ _ y).trans (c8 y)) 400 (le_of_eq hn.symm)
  have s9 : ∀ I : Acc8 F, I = accN x (tbase L) 3600 → st1 ((slot1).view.writes (Elt F) (slot1).view.junk [⟨Rect.whole S400x128, tile_run.sl.dma0_9 d L x⟩, ⟨Rect.whole S400x128, tile_run.sl.dma0_7 d L x⟩, ⟨Rect.whole S400x128, tile_run.sl.dma0_5 d L x⟩, ⟨Rect.whole S400x128, tile_run.sl.dma0_3 d L x⟩, ⟨Rect.whole S400x128, tile_run.sl.dma0_1 d L x⟩]) I 400 = accN x (tbase L) 4000 := fun I hI => by
    subst hI
    exact st1_accN x (tbase L) 3600 _ (fun y => (read_filled _ _ _ _ y).trans (c9 y)) 400 (le_of_eq hn'.symm)
  have h1 : (tile_run.sl.r d L x, tile_run.sl.r_1 d L x, tile_run.sl.r_2 d L x, tile_run.sl.r_3 d L x, tile_run.sl.r_4 d L x, tile_run.sl.r_5 d L x, tile_run.sl.r_6 d L x, tile_run.sl.r_7 d L x) = accN x (tbase L) 800 := s1 _ (s0 _ rfl)
  have h2 : (tile_run.sl.r_8 d L x, tile_run.sl.r_9 d L x, tile_run.sl.r_10 d L x, tile_run.sl.r_11 d L x, tile_run.sl.r_12 d L x, tile_run.sl.r_13 d L x, tile_run.sl.r_14 d L x, tile_run.sl.r_15 d L x) = accN x (tbase L) 1200 := s2 _ h1
  have h4 : (tile_run.sl.r_16 d L x, tile_run.sl.r_17 d L x, tile_run.sl.r_18 d L x, tile_run.sl.r_19 d L x, tile_run.sl.r_20 d L x, tile_run.sl.r_21 d L x, tile_run.sl.r_22 d L x, tile_run.sl.r_23 d L x) = accN x (tbase L) 2000 := s4 _ (s3 _ h2)
  have h5 : (tile_run.sl.r_24 d L x, tile_run.sl.r_25 d L x, tile_run.sl.r_26 d L x, tile_run.sl.r_27 d L x, tile_run.sl.r_28 d L x, tile_run.sl.r_29 d L x, tile_run.sl.r_30 d L x, tile_run.sl.r_31 d L x) = accN x (tbase L) 2400 := s5 _ h4
  have h7 : (tile_run.sl.r_32 d L x, tile_run.sl.r_33 d L x, tile_run.sl.r_34 d L x, tile_run.sl.r_35 d L x, tile_run.sl.r_36 d L x, tile_run.sl.r_37 d L x, tile_run.sl.r_38 d L x, tile_run.sl.r_39 d L x) = accN x (tbase L) 3200 := s7 _ (s6 _ h5)
  have h9 : (st1 ((slot1).view.writes (Elt F) (slot1).view.junk [⟨Rect.whole S400x128, tile_run.sl.dma0_9 d L x⟩, ⟨Rect.whole S400x128, tile_run.sl.dma0_7 d L x⟩, ⟨Rect.whole S400x128, tile_run.sl.dma0_5 d L x⟩, ⟨Rect.whole S400x128, tile_run.sl.dma0_3 d L x⟩, ⟨Rect.whole S400x128, tile_run.sl.dma0_1 d L x⟩]) (st0 ((slot0).view.writes (Elt F) (slot0).view.junk [⟨Rect.whole S400x128, tile_run.sl.dma0_8 d L x⟩, ⟨Rect.whole S400x128, tile_run.sl.dma0_6 d L x⟩, ⟨Rect.whole S400x128, tile_run.sl.dma0_4 d L x⟩, ⟨Rect.whole S400x128, tile_run.sl.dma0_2 d L x⟩, ⟨Rect.whole S400x128, tile_run.sl.dma0 d L x⟩]) (tile_run.sl.r_32 d L x, tile_run.sl.r_33 d L x, tile_run.sl.r_34 d L x, tile_run.sl.r_35 d L x, tile_run.sl.r_36 d L x, tile_run.sl.r_37 d L x, tile_run.sl.r_38 d L x, tile_run.sl.r_39 d L x) 400) 400) = accN x (tbase L) 4000 := s9 _ (s8 _ h7)
  have hrows : ∀ y, tile_run.sl.dma16 d L x fa y = tileOut x L y := fun y => rows_read L x fa _ h9 y
  iexists ((oRowK L).view.writes (Elt F) fo [⟨Rect.whole S8x16, tile_run.sl.dma16 d L x fa⟩]), _, _, _, _
  isplitr
  rotate_left
  · isplitl [Hx]; · iexact Hx
    isplitl [Ho]; · iexact Ho
    isplitl [H0]; · iexact H0
    isplitl [H1]; · iexact H1
    isplitl [Ha]; · iexact Ha
    isplitl [HsA]; · iexact HsA
    isplitl [HsB]; · iexact HsB
    isplitl [HsC]; · iexact HsC
    iexact HO
  · ipureintro
    refine ⟨?_, fun p => (read_filled _ _ _ _ p).trans (hrows p)⟩
    intro p hp
    simp only [Set.mem_insert_iff, Finset.mem_insert] at hp
    rcases hp with h | h | h | h | h | h | h | h | h | h | h | h <;> first | exact .inl h | exact .inr (congrArg Prod.snd h)

end Cert.Proof.K
end
-- ==== Proof.TileBody.lean ====
/-
  The SparseCore kernel as a task of the launch: from what a task is handed to what it hands back.
-/
module

public import proofs.«01_k».proof.Proof.Tile

@[expose] public section

noncomputable section

namespace Cert.Proof.K

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
local notation "xV" => (Memref.whole Cert.KernelIdeal.main_arg0_scv : Memref Cert.KernelIdeal.sig Kind.scVector Space.hbm Cert.KernelIdeal.S320000x128 EltTy.f32)
local notation "oV" => (Memref.whole Cert.KernelIdeal.main_v0_scv : Memref Cert.KernelIdeal.sig Kind.scVector Space.hbm Cert.KernelIdeal.S32x8x16 EltTy.f32)
local notation "bV" => (Memref.whole Cert.KernelIdeal.cc0_scratch0 : Memref Cert.KernelIdeal.sig Kind.scVector Space.vmem Cert.KernelIdeal.S2x400x128 EltTy.f32)
local notation "aV" => (Memref.whole Cert.KernelIdeal.cc0_scratch1 : Memref Cert.KernelIdeal.sig Kind.scVector Space.vmem Cert.KernelIdeal.S8x16 EltTy.f32)

variable (d : Dev nD) (L : grid0.Coords)

/-! ## The partial sums, as one array -/

/-- The array of partial sums: row `w` holds the sums of the 4000 rows of x from `4000 * w`, by column. -/
def oOut (x : S320000x128.Idx → F .f32) : S32x8x16.Idx → F .f32 :=
  fun p => foldRows x (4000 * (p 0).val) (16 * (p 1).val + (p 2).val) 4000

/-- The row of the partial sums that tile `L` writes. -/
abbrev oSet (L : grid0.Coords) : Finset S32x8x16.Idx := (oRowK L).view.set

theorem tileOut_eq (x : S320000x128.Idx → F .f32) (p : S8x16.Idx) : tileOut x L p = oOut x ((oRowK L).view.emb p) := by
  have e : Shape.reshapeEquiv (squeezes_S1x8x16_S8x16).numel_eq (ix2 (n0 := 8) (n1 := 16) (p 0) (p 1)) = ix3 (n0 := 1) (n1 := 8) (n2 := 16) ⟨0, Nat.one_pos⟩ (p 0) (p 1) :=
    Shape.reshapeEquiv_eq_of_rowMajor _ (by
      rw [Shape.rowMajor_val_three, Shape.rowMajor_val_two]
      show (0 * 8 + (p 0).val) * 16 + (p 1).val = (p 0).val * 16 + (p 1).val
      omega)
  have hp : p = ix2 (p 0 : Fin 8) (p 1 : Fin 16) := eq_ix2 p
  have hk : k0_off82 L = ![16 * (L 0).val + (L 1).val, 0, 0] := k0_off82_eq L
  have key : ∀ (off : Fin 3 → ℕ) (inb : ∀ a, off a + S1x8x16.size a ≤ S32x8x16.size a), off = ![16 * (L 0).val + (L 1).val, 0, 0] →
      tileOut x L p = oOut x ((Rect.unit (s := S32x8x16) off S1x8x16.size inb).emb (Shape.reshapeEquiv (squeezes_S1x8x16_S8x16).numel_eq (ix2 (n0 := 8) (n1 := 16) (p 0) (p 1)))) := by
    intro off inb h
    subst h
    rw [e]
    show foldRows x (tbase L) (16 * (p 0).val + (p 1).val) 4000
      = foldRows x (4000 * (16 * (L 0).val + (L 1).val + 1 * 0)) (16 * (0 + 1 * (p 0).val) + (0 + 1 * (p 1).val)) 4000
    rw [tbase]
    congr 1 <;> omega
  have := key _ (k0_off82_inb L) hk
  rw [this]
  conv_rhs => rw [hp]
  rfl

/-- What a tile leaves in its row is the array of partial sums there. -/
theorem row_out (x : S320000x128.Idx → F .f32) (g : S32x8x16.Idx → F .f32) (h : ∀ p, (oRowK L).view.read (Elt F) g p = tileOut x L p) :
    (oLoc d ↦[oSet L]{fullShare} g : sProp 𝕄) = oLoc d ↦[oSet L]{fullShare} oOut x := by
  refine pointsTo_congr fun i hi => ?_
  obtain ⟨p, -, rfl⟩ := Finset.mem_map.mp hi
  exact (h p).trans (tileOut_eq L x p)

/-! ## The two slots of the chunk buffer -/

theorem slot0_set : (slot0).view.set = (Rect.unit (s := S2x400x128) ![0, 0, 0] S1x400x128.size inb_S2x400x128_S1x400x128_0_0_0).set := by
  show (((bV).view.slice (Rect.unit (s := S2x400x128) ![0, 0, 0] S1x400x128.size inb_S2x400x128_S1x400x128_0_0_0)).reshape S400x128 squeezes_S1x400x128_S400x128.numel_eq).set = _
  rw [View.set_reshape]
  show ((View.whole (cc0_scratch0 : Ref sig .scVector)).slice _).set = _
  rw [View.set_slice]; exact Finset.map_refl

theorem slot1_set : (slot1).view.set = (Rect.unit (s := S2x400x128) ![1, 0, 0] S1x400x128.size inb_S2x400x128_S1x400x128_1_0_0).set := by
  show (((bV).view.slice (Rect.unit (s := S2x400x128) ![1, 0, 0] S1x400x128.size inb_S2x400x128_S1x400x128_1_0_0)).reshape S400x128 squeezes_S1x400x128_S400x128.numel_eq).set = _
  rw [View.set_reshape]
  show ((View.whole (cc0_scratch0 : Ref sig .scVector)).slice _).set = _
  rw [View.set_slice]; exact Finset.map_refl

theorem slots_disjoint : Disjoint (slot0).view.set (slot1).view.set := by
  rw [slot0_set, slot1_set]
  exact Rect.unit_disjoint 0 (Or.inl (by decide))

theorem slots_cover : (slot0).view.set ∪ (slot1).view.set = (Finset.univ : Finset S2x400x128.Idx) := by
  rw [slot0_set, slot1_set]
  refine Finset.eq_univ_iff_forall.mpr fun i => ?_
  have i0 : (i 0).val < 2 := (i 0).isLt
  have i1 : (i 1).val < 400 := (i 1).isLt
  have i2 : (i 2).val < 128 := (i 2).isLt
  by_cases h : (i 0).val = 0
  · refine Finset.mem_union_left _ (Rect.mem_set_unit.mpr fun a => ?_)
    match a with
    | ⟨0, _⟩ => exact ⟨Nat.zero_le _, by show (i 0).val < 0 + 1; omega⟩
    | ⟨1, _⟩ => exact ⟨Nat.zero_le _, by show (i 1).val < 0 + 400; omega⟩
    | ⟨2, _⟩ => exact ⟨Nat.zero_le _, by show (i 2).val < 0 + 128; omega⟩
  · refine Finset.mem_union_right _ (Rect.mem_set_unit.mpr fun a => ?_)
    match a with
    | ⟨0, _⟩ => exact ⟨by show 1 ≤ (i 0).val; omega, by show (i 0).val < 1 + 1; omega⟩
    | ⟨1, _⟩ => exact ⟨Nat.zero_le _, by show (i 1).val < 0 + 400; omega⟩
    | ⟨2, _⟩ => exact ⟨Nat.zero_le _, by show (i 2).val < 0 + 128; omega⟩

/-- The chunk buffer held whole is its two slots. -/
theorem slots_split (f : Buf (Elt F) ((V d (cV L) (jV L)).loc cc0_scratch0)) :
    ((V d (cV L) (jV L)).loc cc0_scratch0 ↦{fullShare} f : sProp 𝕄)
      ⊢ iprop(((slot0).view.loc (V d (cV L) (jV L)) ↦[(slot0).view.set]{fullShare} f) ∗ ((slot1).view.loc (V d (cV L) (jV L)) ↦[(slot1).view.set]{fullShare} f)) := by
  refine Entails.trans (Entails.of_eq ?_) (pointsTo_union slots_disjoint).1
  rw [slots_cover]

theorem slots_join (f g : Buf (Elt F) ((V d (cV L) (jV L)).loc cc0_scratch0)) :
    iprop(((slot0).view.loc (V d (cV L) (jV L)) ↦[(slot0).view.set]{fullShare} f) ∗ ((slot1).view.loc (V d (cV L) (jV L)) ↦[(slot1).view.set]{fullShare} g))
      ⊢ (iprop(∃ h, (V d (cV L) (jV L)).loc cc0_scratch0 ↦{fullShare} h) : sProp 𝕄) := by
  refine (pointsTo_join slots_disjoint).trans ?_
  rw [slots_cover]
  iintro H; iexists _; iexact H

/-! ## The task's own storage -/

abbrev cAcell (d : Dev nD) (c : Fin τ.nSC) (i : Fin τ.nSub) : GSem nD τ sig := (V d c i, .dma cc0_scratch2.sem)
abbrev cBcell (d : Dev nD) (c : Fin τ.nSC) (i : Fin τ.nSub) : GSem nD τ sig := (V d c i, .dma cc0_scratch3.sem)
abbrev cCcell (d : Dev nD) (c : Fin τ.nSC) (i : Fin τ.nSub) : GSem nD τ sig := (V d c i, .dma cc0_scoped0.sem)

/-- The kernel's three semaphores are among the subcore's own. -/
theorem ownSems_tile :
    (ownSems0 (V d (cV L) (jV L)) : sProp 𝕄)
      = iprop(semVal (cAcell d (cV L) (jV L)) 0 ∗ semVal (cBcell d (cV L) (jV L)) 0 ∗ semVal (cCcell d (cV L) (jV L)) 0
          ∗ bigSep ((((ownCells (V d (cV L) (jV L))).erase (cAcell d (cV L) (jV L))).erase (cBcell d (cV L) (jV L))).erase (cCcell d (cV L) (jV L))) fun g => semVal g 0) := by
  have hA : cAcell d (cV L) (jV L) ∈ ownCells (V d (cV L) (jV L)) :=
    mem_ownCells.mpr ⟨rfl, show (SemLoc.dma cc0_scratch2.sem : SemLoc sig).isScoped .scVector = true by decide⟩
  have hB : cBcell d (cV L) (jV L) ∈ ownCells (V d (cV L) (jV L)) :=
    mem_ownCells.mpr ⟨rfl, show (SemLoc.dma cc0_scratch3.sem : SemLoc sig).isScoped .scVector = true by decide⟩
  have hC : cCcell d (cV L) (jV L) ∈ ownCells (V d (cV L) (jV L)) :=
    mem_ownCells.mpr ⟨rfl, show (SemLoc.dma cc0_scoped0.sem : SemLoc sig).isScoped .scVector = true by decide⟩
  have hBA : cBcell d (cV L) (jV L) ≠ cAcell d (cV L) (jV L) :=
    fun e => absurd (congrArg Prod.snd e) (show (SemLoc.dma cc0_scratch3.sem : SemLoc sig) ≠ .dma cc0_scratch2.sem by decide)
  have hCA : cCcell d (cV L) (jV L) ≠ cAcell d (cV L) (jV L) :=
    fun e => absurd (congrArg Prod.snd e) (show (SemLoc.dma cc0_scoped0.sem : SemLoc sig) ≠ .dma cc0_scratch2.sem by decide)
  have hCB : cCcell d (cV L) (jV L) ≠ cBcell d (cV L) (jV L) :=
    fun e => absurd (congrArg Prod.snd e) (show (SemLoc.dma cc0_scoped0.sem : SemLoc sig) ≠ .dma cc0_scratch3.sem by decide)
  unfold SparseCore.Cfg.ownSems0
  rw [SparseCore.bigSep_erase' hA, SparseCore.bigSep_erase' (Finset.mem_erase.mpr ⟨hBA, hB⟩),
    SparseCore.bigSep_erase' (Finset.mem_erase.mpr ⟨hCB, Finset.mem_erase.mpr ⟨hCA, hC⟩⟩)]

/-- The kernel's two scratch buffers are among the subcore's own. -/
theorem ownBufs_tile :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  have h0 : (Proc.scVector (cV L) (jV L)).devRef cc0_scratch0 ∈ ownRefs (τ := τ) (sig := sig) (.scVector (cV L) (jV L)) :=
    SparseCore.Cfg.mem_ownRefs_of_owner rfl
  have h1 : (Proc.scVector (cV L) (jV L)).devRef cc0_scratch1 ∈ ownRefs (τ := τ) (sig := sig) (.scVector (cV L) (jV L)) :=
    SparseCore.Cfg.mem_ownRefs_of_owner rfl
  have h10 : (Proc.scVector (cV L) (jV L)).devRef cc0_scratch1 ≠ (Proc.scVector (cV L) (jV L)).devRef cc0_scratch0 :=
    fun e => absurd (Proc.devRef_injective _ e) (show (cc0_scratch1 : Ref sig .scVector) ≠ cc0_scratch0 by decide)
  unfold SparseCore.Cfg.ownBufs
  exact (SparseCore.bigSep_erase' h0).trans (by rw [SparseCore.bigSep_erase' (Finset.mem_erase.mpr ⟨h10, h1⟩)])

/-- The task on tile `L`: from a share of x and its row of the partial sums, to the same with the row's sums. -/
theorem tile_body (hF : (K (F := F)).Facts) (q : PosShare TreeShare) (x : Buf (Elt F) (xLoc d)) (fo : Buf (Elt F) (oLoc d))
    (O : CellTallies nD τ sig (HIx 1)) (W : Waits sig (HIx 1)) (hO : ∀ g, O g none = 0) :
    iprop(levAts (K (F := F)).L (K (F := F)).lev ∗ emp
        ∗ ((xLoc d ↦{q} x) ∗ oLoc d ↦[oSet L]{fullShare} fo)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_partials L xV (Memref.isWhole_whole _) oV (Memref.isWhole_whole _)
            bV (Memref.isWhole_whole _) aV (Memref.isWhole_whole _) cc0_scratch2 cc0_scratch3 cc0_scoped0)
          fun _ => (iprop(((xLoc d ↦{q} x) ∗ oLoc d ↦[oSet L]{fullShare} oOut x)
            ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') : sProp 𝕄) := by
  rw [(K (F := F)).scopedBufs_V hF d (cV L) (jV L), SparseCore.Cfg.scopedSems0_V (Val := Elt F) d (cV L) (jV L), ownSems_tile, ownBufs_tile]
  iintro ⟨#Hlv, -, ⟨Hx, Ho⟩, ⟨⟨%fb, Hb⟩, ⟨%fa, Ha⟩, Hbufs⟩, ⟨HsA, HsB, HsC, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hb' := (slots_split d L fb) $$ Hb
  icases Hb' with ⟨H0, H1⟩
  iapply (wp_wand_r frame _ _)
  isplitr [Hbufs Hsems]
  · iapply (tile_run d L q x fo fb fb fa O W)
    isplitl [Hmw]; · iexact Hmw
    isplitl [Hx]; · iexact Hx
    isplitl [Ho]; · iexact Ho
    isplitl [H0]; · iexact H0
    isplitl [H1]; · iexact H1
    isplitl [Ha]; · iexact Ha
    isplitl [HsA]; · iexact HsA
    isplitl [HsB]; · iexact HsB
    isplitl [HsC]; · iexact HsC
    iexact HO
  iintro %_ ⟨%g, %g0, %g1, %ga, %W', %hg, Hx, Ho, H0, H1, Ha, HsA, HsB, HsC, HO⟩
  isplitl [Hx Ho]
  · isplitl [Hx]; · iexact Hx
    iapply (Entails.of_eq (row_out d L x g hg.2)); iexact Ho
  isplitl [H0 H1 Ha Hbufs]
  · isplitl [H0 H1]
    · iapply (slots_join d L g0 g1)
      isplitl [H0]; · iexact H0
      iexact H1
    isplitl [Ha]; · iexists _; iexact Ha
    iexact Hbufs
  isplitl [HsA HsB HsC Hsems]
  · isplitl [HsA]; · iexact HsA
    isplitl [HsB]; · iexact HsB
    isplitl [HsC]; · iexact HsC
    iexact Hsems
  iexists W'; isplitr
  · ipureintro; exact fun p hp => (hg.1 p hp).imp_right Or.inl
  iexact HO

end Cert.Proof.K
end
-- ==== Proof.Obl.lean ====
/-
  The SparseCore call of the launch: what its handshakes carry, each task's obligation, and how a core's operands are dealt to its tiles.
-/
module

public import proofs.«01_k».proof.Proof.TileBody

@[expose] public section

noncomputable section

namespace Cert.Proof.K

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
local notation "xV" => (Memref.whole Cert.KernelIdeal.main_arg0_scv : Memref Cert.KernelIdeal.sig Kind.scVector Space.hbm Cert.KernelIdeal.S320000x128 EltTy.f32)
local notation "oV" => (Memref.whole Cert.KernelIdeal.main_v0_scv : Memref Cert.KernelIdeal.sig Kind.scVector Space.hbm Cert.KernelIdeal.S32x8x16 EltTy.f32)
local notation "bV" => (Memref.whole Cert.KernelIdeal.cc0_scratch0 : Memref Cert.KernelIdeal.sig Kind.scVector Space.vmem Cert.KernelIdeal.S2x400x128 EltTy.f32)
local notation "aV" => (Memref.whole Cert.KernelIdeal.cc0_scratch1 : Memref Cert.KernelIdeal.sig Kind.scVector Space.vmem Cert.KernelIdeal.S8x16 EltTy.f32)

variable (m : (ℓ : Loc nD τ sig) → Buf (Elt F) ℓ)

/-- The coordinates of tile `s` of SparseCore `c`. -/
def coordsV (c : Fin (grid0.bound 0)) (s : Fin (grid0.bound 1)) : grid0.Coords :=
  fun | 0 => c | 1 => s | ⟨_ + 2, h⟩ => absurd h (Nat.not_lt.2 (Nat.le_add_left _ _))

/-! ## What the handshakes carry -/

/-- Core `c`'s share of x, and the share of it that tile `i` reads with. -/
abbrev cq (c : Fin 2) : PosShare TreeShare := Transfers.shareTok fullShare 2 c
abbrev tq (c : Fin 2) (i : Fin 16) : PosShare TreeShare := Transfers.shareTok (cq c) 16 i

abbrev xC (d : Dev nD) (c : Fin 2) : sProp 𝕄 := xLoc d ↦{cq c} m (xLoc d)
abbrev xT (d : Dev nD) (c : Fin 2) (i : Fin 16) : sProp 𝕄 := xLoc d ↦{tq c i} m (xLoc d)
abbrev oT (d : Dev nD) (f : Buf (Elt F) (oLoc d)) (c : Fin 2) (i : Fin 16) : sProp 𝕄 := oLoc d ↦[oSet (coordsV c i)]{fullShare} f

/-- A core is handed its share of x and its sixteen rows of the partial sums, and brings them back with the sums in. -/
def P : (K (F := F)).Pay (nD := nD) (Val := Elt F) (Name := ℕ) (U := UU) where
  st := fun q d c => match q with | 0 => iprop(xC m d c ∗ bigSep Finset.univ fun i : Fin 16 => oT d (m (oLoc d)) c i)
  dn := fun q d c => match q with | 0 => iprop(xC m d c ∗ bigSep Finset.univ fun i : Fin 16 => oT d (oOut (m (xLoc d))) c i)
  go := fun q d c i => match q with | 0 => iprop(xT m d c i ∗ oT d (m (oLoc d)) c i)
  td := fun q d c i => match q with | 0 => iprop(xT m d c i ∗ oT d (oOut (m (xLoc d))) c i)
  x := fun _ _ => iprop(emp)

instance P_storable : (P (F := F) m).IsStorable where
  st q d c := match q with
    | 0 => (inferInstance : BI.Storable (upEmb : UEmb _ 𝕄) iprop(xC m d c ∗ bigSep Finset.univ fun i : Fin 16 => oT d (m (oLoc d)) c i))
  dn q d c := match q with
    | 0 => (inferInstance : BI.Storable (upEmb : UEmb _ 𝕄) iprop(xC m d c ∗ bigSep Finset.univ fun i : Fin 16 => oT d (oOut (m (xLoc d))) c i))
  go q d c i := match q with | 0 => (inferInstance : BI.Storable (upEmb : UEmb _ 𝕄) iprop(xT m d c i ∗ oT d (m (oLoc d)) c i))
  td q d c i := match q with | 0 => (inferInstance : BI.Storable (upEmb : UEmb _ 𝕄) iprop(xT m d c i ∗ oT d (oOut (m (xLoc d))) c i))

/-! ## The task's obligation -/

theorem defs₀_vector (c : Fin τ.nSC) (s : Fin τ.nSub) :
    defs₀ (F := F) (.scVector c s) 0 ()
      = SparseCore.onTile hcore0 hsub0 (fun c s => cc0__sc_partials (coordsV c s)
          xV (Memref.isWhole_whole _) oV (Memref.isWhole_whole _) bV (Memref.isWhole_whole _) aV (Memref.isWhole_whole _)
          cc0_scratch2 cc0_scratch3 cc0_scoped0) ⟨⟩ c s := rfl

set_option maxRecDepth 16384 in
theorem tileObl : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body d (coordsV ⟨_, hci.1⟩ ⟨_, hci.2⟩) facts (tq c i) (m (xLoc d)) (m (oLoc d)) O W hO

/-! ## A core's operands dealt to its tiles -/

theorem xC_deal (d : Dev nD) (c : Fin 2) :
    (xC m d c : sProp 𝕄) ⊣⊢ iprop((xLoc d ↦{Transfers.shareDrop (cq c) 16} m (xLoc d)) ∗ bigSep Finset.univ fun i : Fin 16 => xT m d c i) :=
  Transfers.pointsTo_toks (cq c) 16

theorem vecSplit : (K (F := F)).VecSplit' (P m) 0 := by
  intro d c
  show iprop(xC m d c ∗ bigSep Finset.univ fun i : Fin 16 => oT d (m (oLoc d)) c i) ⊢ |={Set.univ}=> iprop(
      (bigSep Finset.univ fun i : Fin 16 => iprop(xT m d c i ∗ oT d (m (oLoc d)) c i))
      ∗ ((bigSep Finset.univ fun i : Fin 16 => iprop(xT m d c i ∗ oT d (oOut (m (xLoc d))) c i))
          -∗ iprop(xC m d c ∗ bigSep Finset.univ fun i : Fin 16 => oT d (oOut (m (xLoc d))) c i)))
  rw [bigSep_sep', bigSep_sep']
  iintro ⟨Hx, Ho⟩
  ihave Hx' := (xC_deal m d c).1 $$ Hx
  icases Hx' with ⟨Hr, Hx⟩
  imodintro
  isplitl [Hx Ho]
  · isplitl [Hx]; · iexact Hx
    iexact Ho
  iintro ⟨Hx, Ho⟩
  isplitl [Hr Hx]
  · iapply (xC_deal m d c).2
    isplitl [Hr]; · iexact Hr
    iexact Hx
  iexact Ho

/-! ## The array of partial sums is its 32 rows -/

theorem oSet_eq (L : grid0.Coords) : oSet L = (Rect.unit (s := S32x8x16) (k0_off82 L) S1x8x16.size (k0_off82_inb L)).set := by
  show (((oV).view.slice (orowK L)).reshape S8x16 squeezes_S1x8x16_S8x16.numel_eq).set = _
  rw [View.set_reshape]
  show ((View.whole (main_v0_scv : Ref sig .scVector)).slice _).set = _
  rw [View.set_slice]; exact Finset.map_refl

theorem mem_oSet (c : Fin 2) (i : Fin 16) (y : S32x8x16.Idx) : y ∈ oSet (coordsV c i) ↔ (y 0).val = 16 * c.val + i.val := by
  have key : ∀ (off : Fin 3 → ℕ) (inb : ∀ a, off a + S1x8x16.size a ≤ S32x8x16.size a), off = ![16 * c.val + i.val, 0, 0] →
      (y ∈ (Rect.unit (s := S32x8x16) off S1x8x16.size inb).set ↔ (y 0).val = 16 * c.val + i.val) := by
    intro off inb h
    subst h
    rw [Rect.mem_set_unit]
    constructor
    · intro h
      have h0 : 16 * c.val + i.val ≤ (y 0).val ∧ (y 0).val < 16 * c.val + i.val + 1 := h 0
      omega
    · intro h a
      have y1 : (y 1).val < 8 := (y 1).isLt
      have y2 : (y 2).val < 16 := (y 2).isLt
      match a with
      | ⟨0, _⟩ => exact ⟨by show 16 * c.val + i.val ≤ (y 0).val; omega, by show (y 0).val < 16 * c.val + i.val + 1; omega⟩
      | ⟨1, _⟩ => exact ⟨Nat.zero_le _, by show (y 1).val < 0 + 8; omega⟩
      | ⟨2, _⟩ => exact ⟨Nat.zero_le _, by show (y 2).val < 0 + 16; omega⟩
  rw [oSet_eq]
  exact key _ _ (k0_off82_eq (coordsV c i))

theorem oT_rows (d : Dev nD) (f : Buf (Elt F) (oLoc d)) :
    (oLoc d ↦{fullShare} f : sProp 𝕄) = bigSep Finset.univ fun c : Fin 2 => bigSep Finset.univ fun i : Fin 16 => oT d f c i := by
  have hd : ∀ t ∈ (Finset.univ : Finset (Fin 2 × Fin 16)), ∀ t' ∈ (Finset.univ : Finset (Fin 2 × Fin 16)), t ≠ t' →
      Disjoint (oSet (coordsV t.1 t.2)) (oSet (coordsV t'.1 t'.2)) := by
    intro t _ t' _ hne
    refine Finset.disjoint_left.mpr fun y hy hy' => hne ?_
    have h1 := (mem_oSet t.1 t.2 y).mp hy
    have h2 := (mem_oSet t'.1 t'.2 y).mp hy'
    have := t.2.isLt; have := t'.2.isLt
    exact Prod.ext (Fin.ext (by omega)) (Fin.ext (by omega))
  have hc : (Finset.univ : Finset (Fin 2 × Fin 16)).biUnion (fun t => oSet (coordsV t.1 t.2)) = (Finset.univ : Finset S32x8x16.Idx) := by
    refine Finset.eq_univ_iff_forall.mpr fun y => Finset.mem_biUnion.mpr ?_
    have y0 : (y 0).val < 32 := (y 0).isLt
    exact ⟨(⟨(y 0).val / 16, by omega⟩, ⟨(y 0).val % 16, by omega⟩), Finset.mem_univ _, (mem_oSet _ _ y).mpr (by show (y 0).val = 16 * ((y 0).val / 16) + (y 0).val % 16; omega)⟩
  have := pointsTo_biUnion (Ix := HIx 1) (Name := ℕ) (U := UU) (Lvl := ℕ) (ℓ := oLoc d) (q := fullShare) (f := f) Finset.univ (fun t : Fin 2 × Fin 16 => oSet (coordsV t.1 t.2)) hd
  rw [hc] at this
  refine this.trans ?_
  exact bigSep_univ_prod (Φ := fun t : Fin 2 × Fin 16 => oT d f t.1 t.2)

end Cert.Proof.K
end
-- ==== Proof.Run.lean ====
/-
  The launch: `@main` on the TensorCore, from the SparseCore call to the results, and the whole program's run.
-/
module

public import proofs.«01_k».proof.Proof.Dat2
public import proofs.«01_k».proof.Proof.Obl

@[expose] public section

noncomputable section

namespace Cert.Proof.K

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.TcCoe

variable {F : FTy → Type} [FloatOps F]

local notation "𝕄" => MT nD τ sig (HIx 1) (Elt F) ℕ UU ℕ

variable (m : (ℓ : Loc nD τ sig) → Buf (Elt F) ℓ) (ρ : Dev nD → PrngReg)

/-! ## The buffers' contents between the parts of `@main` -/

/-- The launch contents, -/
def V0 (d : Dev nD) : Valuation τ sig (Elt F) := fun b => m (d, b)
/-- after the SparseCore call, -/
def V0' (d : Dev nD) : Valuation τ sig (Elt F) := Function.update (V0 m d) (Proc.devRef .tc main_v0) (oOut (m (xLoc d)))

/-- The operation between the SparseCore call and the dense passes. -/
abbrev opsA : List (HloOp τ sig (Elt F)) :=
  [StableHlo.reshape main_v0 main_v1 (rfl : (.f32 : EltTy) = .f32) shapeCasts_S32x8x16_S32x128]
/-- The operations after the dense passes. -/
abbrev opsB : List (HloOp τ sig (Elt F)) :=
  [StableHlo.reshape main_v3_2 main_v4 (rfl : (.i32 : EltTy) = .i32) shapeCasts_S1x1_S_,
   StableHlo.nullary main_c (constantI S_ 32 0#32),
   StableHlo.binary main_v4 main_c main_v5 (cmpi .ne : (⟨S_, .i32⟩ : BufTy).Contents (Elt F) → (⟨S_, .i32⟩ : BufTy).Contents (Elt F) → (⟨S_, .i1⟩ : BufTy).Contents (Elt F)),
   StableHlo.reshape main_v3_1 main_v6 (rfl : (.f32 : EltTy) = .f32) shapeCasts_S1x128_S128]

/-- after the reshape, -/
def V1 (d : Dev nD) : Valuation τ sig (Elt F) := StableHlo.after opsA (V0' m d)
/-- after the first dense pass, -/
def V2 (d : Dev nD) : Valuation τ sig (Elt F) := Pipeline.afterRegion (dat1 (V1 m d) d) (V1 m d)
/-- after the second, -/
def V3 (d : Dev nD) : Valuation τ sig (Elt F) := Pipeline.afterRegion (dat2 (V2 m d) d) (V2 m d)
/-- and at the end. -/
def V4 (d : Dev nD) : Valuation τ sig (Elt F) := StableHlo.after opsB (V3 m d)

/-! ## The segments -/

abbrev adm : (p : Fin 2) → (pcfgs (F := F) p).Adm := fun p => (cfgs p).toPCfg_adm

def pdats : (p : Fin 2) → (c : Dev nD) → Pipeline.Dat τ (Elt F) (HIx 1) ℕ UU ℕ (Pipeline.pin (pcfgs (F := F)) adm p) c
  | 0 => fun c => dat1 (V1 m c) c
  | 1 => fun c => dat2 (V2 m c) c

theorem kit0 : Pipeline.PLaunchFacts (nD := nD) (τ := τ) (pcfgs (F := F)) 0 := Pipeline.LaunchFacts.toP launch1
theorem kit1 : Pipeline.PLaunchFacts (nD := nD) (τ := τ) (pcfgs (F := F)) 1 := Pipeline.LaunchFacts.toP launch2
theorem cells_inj : Function.Injective (Pipeline.cellOf (nD := nD) (τ := τ) (Pipeline.pin (pcfgs (F := F)) adm)) := cellOf_inj

theorem share1 (V : Valuation τ sig (Elt F)) (c : Dev nD) (w) : (dat1 V c).share w = fullShare := by
  unfold Pipeline.Dat.share; split <;> rfl
theorem share2 (V : Valuation τ sig (Elt F)) (c : Dev nD) (w) : (dat2 V c).share w = fullShare := by
  unfold Pipeline.Dat.share; split <;> rfl

theorem hb0 : ∀ c, Pipeline.BodyObligationLoose (pdats m 0 c) (defs₀ (F := F)) 𝒱₀ none Set.univ := fun c => (body1 (V1 m c) c).loose
theorem ho0 : ∀ c t, (pdats m 0 c).owed t = 0 := fun _ _ => rfl
theorem hr0 : ∀ c t, (pdats m 0 c).recorded t = Bnd (F := F) c := fun _ _ => rfl
theorem hs0 : ∀ c w, (pdats m 0 c).share w = fullShare := fun c w => share1 (V1 m c) c w
theorem hp0 : ∀ c t, (pdats m 0 c).Φ t = Pipeline.scopedRest (Pipeline.pin (pcfgs (F := F)) adm 0).spec c := fun _ _ => rfl
theorem hw0 : ∀ c w, (pdats m 0 c).arrAt w 0 = V1 m c (Proc.devRef .tc (Pipeline.arrRef (Pipeline.pin (pcfgs (F := F)) adm 0).spec w)) := fun _ _ => rfl
def seg0 : Pipeline.RegionSeg (pcfgs (F := F)) adm (pdats m) none (defs₀ (F := F)) 𝒱₀ ((K (F := F)).L (N := 1)) ((K (F := F)).lev (N := 1)) 0 :=
  seg adm (pdats m) 0 kit0 (hb0 m) (ho0 m) (hr0 m) (hs0 m) (hp0 m) (fun _ => iprop(emp)) (fun c => V1 m c) (hw0 m)

theorem hb1 : ∀ c, Pipeline.BodyObligationLoose (pdats m 1 c) (defs₀ (F := F)) 𝒱₀ none Set.univ := fun c => (body2 (V2 m c) c).loose
theorem ho1 : ∀ c t, (pdats m 1 c).owed t = 0 := fun _ _ => rfl
theorem hr1 : ∀ c t, (pdats m 1 c).recorded t = Bnd (F := F) c := fun _ _ => rfl
theorem hs1 : ∀ c w, (pdats m 1 c).share w = fullShare := fun c w => share2 (V2 m c) c w
theorem hp1 : ∀ c t, (pdats m 1 c).Φ t = Pipeline.scopedRest (Pipeline.pin (pcfgs (F := F)) adm 1).spec c := fun c t => by
  dsimp only [pdats]
  dsimp only [dat2]
  exact congrArg (fun s => Pipeline.scopedRest (Ix := HIx 1) (Name := ℕ) (U := UU) (Lvl := ℕ) (Val := Elt F) s c)
    (show spec2 = (Pipeline.pin (pcfgs (F := F)) adm 1).spec from rfl)
theorem hw1 : ∀ c w, (pdats m 1 c).arrAt w 0 = V2 m c (Proc.devRef .tc (Pipeline.arrRef (Pipeline.pin (pcfgs (F := F)) adm 1).spec w)) := fun _ _ => rfl
def seg1 : Pipeline.RegionSeg (pcfgs (F := F)) adm (pdats m) none (defs₀ (F := F)) 𝒱₀ ((K (F := F)).L (N := 1)) ((K (F := F)).lev (N := 1)) 1 :=
  seg adm (pdats m) 1 kit1 (hb1 m) (ho1 m) (hr1 m) (hs1 m) (hp1 m) (fun _ => iprop(emp)) (fun c => V2 m c) (hw1 m)

abbrev rest : Dev nD → sProp 𝕄 := fun c => iprop(owesB c ∗ emp)

theorem opsA_sub : (opsA : List (HloOp τ sig (Elt F))).Forall fun op => op.bufs ⊆ StableHlo.tcRefs τ sig :=
  StableHlo.reshape_bufs_sub ..
theorem opsB_sub : (opsB : List (HloOp τ sig (Elt F))).Forall fun op => op.bufs ⊆ StableHlo.tcRefs τ sig :=
  ⟨StableHlo.reshape_bufs_sub .., StableHlo.nullary_bufs_sub .., StableHlo.binary_bufs_sub .., StableHlo.reshape_bufs_sub ..⟩
theorem opsA_fresh : (opsA : List (HloOp τ sig (Elt F))).Forall fun op => op.fresh = ∅ := rfl
theorem opsB_fresh : (opsB : List (HloOp τ sig (Elt F))).Forall fun op => op.fresh = ∅ := ⟨rfl, rfl, rfl, rfl⟩

def hostA : Pipeline.HostSeg (Name := ℕ) (U := UU) (pcfgs (F := F)) (defs₀ (F := F)) 𝒱₀ ((K (F := F)).L (N := 1)) ((K (F := F)).lev (N := 1)) :=
  Pipeline.HostSeg.ofOps _ _ _ _ _ (Pipeline.ucRefs τ sig) opsA
    (fun op h => Pipeline.sub_ucRefs op (List.forall_iff_forall_mem.mp opsA_sub op h)) (List.forall_iff_forall_mem.mp opsA_fresh) (V0' m) rest
def hostB : Pipeline.HostSeg (Name := ℕ) (U := UU) (pcfgs (F := F)) (defs₀ (F := F)) 𝒱₀ ((K (F := F)).L (N := 1)) ((K (F := F)).lev (N := 1)) :=
  Pipeline.HostSeg.ofOps _ _ _ _ _ (Pipeline.ucRefs τ sig) opsB
    (fun op h => Pipeline.sub_ucRefs op (List.forall_iff_forall_mem.mp opsB_sub op h)) (List.forall_iff_forall_mem.mp opsB_fresh) (V3 m) rest

def segs : List (Pipeline.Seg (pcfgs (F := F)) adm (pdats m) none (defs₀ (F := F)) 𝒱₀ ((K (F := F)).L (N := 1)) ((K (F := F)).lev (N := 1))) :=
  [.host (hostA m), .region (seg0 m), .region (seg1 m), .host (hostB m)]

/-- What a device's TensorCore holds at the end. -/
abbrev FIN (d : Dev nD) : sProp 𝕄 := StableHlo.held (d.tc : Thread nD τ) (Pipeline.ucRefs τ sig) (V4 m d)

theorem main_eq (d : Dev nD) :
    main (F := F) d = ((K (F := F)).run d 0 >>= fun _ => SparseCore.liftProg (Q := 1) (Pipeline.Seg.run (segs m))) := by
  unfold main segs
  simp only [Pipeline.Seg.run, hostA, hostB, Pipeline.HostSeg.ofOps, StableHlo.seq]
  simp only [SparseCore.liftProg_op, SparseCore.liftProg_ret, Prog.lift, Prog.bind_op, Prog.bind_ret, Prog.pure_eq_ret, hlo]
  rfl

theorem chains : Pipeline.Seg.Chains (fun c => iprop(StableHlo.held (c.tc : Thread nD τ) (Pipeline.ucRefs τ sig) (V0' m c) ∗ rest c)) (segs m)
    (fun c => iprop(FIN m c ∗ rest (F := F) c)) :=
  ⟨fun _ => .rfl, fun _ => .rfl, fun _ => .rfl, fun _ => .rfl, fun _ => .rfl⟩

/-- Everything after the SparseCore call. -/
theorem tail_run [∀ e, Nonempty (Elt F e)] (d : Dev nD) {Q : PUnit → sProp 𝕄} :
    iprop((iprop(boundary (d.tc : Thread nD τ) ∗ FIN m d ∗ rest (F := F) d) -∗ Q ⟨⟩)
        ∗ boundary (d.tc : Thread nD τ) ∗ (StableHlo.held (d.tc : Thread nD τ) (Pipeline.ucRefs τ sig) (V0' m d) ∗ rest (F := F) d)
        ∗ levAts ((K (F := F)).L (N := 1)) ((K (F := F)).lev (N := 1)) ∗ Pipeline.ghostOn (pcfgs (F := F)) adm EP Finset.univ d)
      ⊢ wp frame (wpE ((K (F := F)).defs (D (F := F))) 𝒱 (SparseCore.T d) none) Set.univ (SparseCore.liftProg (Q := 1) (Pipeline.Seg.run (segs m))) Q :=
  (Pipeline.wp_segs (pcfgs (F := F)) adm (pdats m) none cells_inj EP (defs₀ (F := F)) 𝒱₀ ((K (F := F)).L (N := 1)) ((K (F := F)).lev (N := 1)) d
    (segs m) Finset.univ _ _ (by simp only [segs, Pipeline.Seg.pipes_host, Pipeline.Seg.pipes_region, Pipeline.Seg.pipes_nil]; decide)
    (fun _ _ => Finset.mem_univ _) (chains m)).trans ((K (F := F)).wp_liftProg (D (F := F)) 𝒱 (SparseCore.T d) Set.univ none _ Q)

/-! ## The launch element of the certificate's ghost state -/

def u₀ : UU := (initOf (K (F := F)).hsCells (K (F := F)).hsToks,
  (initOf (Pipeline.cells (Pipeline.pin (pcfgs (F := F)) adm) cells_inj) (Pipeline.launchToks (Pipeline.pin (pcfgs (F := F)) adm) cells_inj), 1))

/-- What a device's TensorCore is given for its dense passes. -/
abbrev G (d : Dev nD) : sProp 𝕄 := Pipeline.ghostOn (pcfgs (F := F)) adm EP Finset.univ d

theorem ghost_split :
    iprop((bigSep Finset.univ fun c : Dev nD => bigSep Finset.univ fun p => Pipeline.cellsGhost (Pipeline.pin (pcfgs (F := F)) adm) EP p c)
        ∗ (bigSep Finset.univ fun c : Dev nD => bigSep Finset.univ fun p => (Pipeline.toksInit (Pipeline.pin (pcfgs (F := F)) adm) EP p c : sProp 𝕄)))
      ⊢ bigSep Finset.univ (G (F := F)) := by
  rw [← bigSep_sep']
  refine bigSep_mono fun c _ => ?_
  rw [← bigSep_sep']
  exact BI.Entails.refl _

theorem hu₀ : (ownU (u₀ (F := F)) : sProp 𝕄)
    ⊢ |={Set.univ}=> iprop(BI.own (EH (initOf (K (F := F)).hsCells (K (F := F)).hsToks)) ∗ (bigSep Finset.univ (G (F := F)))
        ∗ bigSep Finset.univ fun thr : Thread nD τ => bigSep Finset.univ fun q : Fin 1 => (P m).x q thr) := by
  unfold u₀
  iintro Hu
  ihave H := (ownU_pair (initOf (K (F := F)).hsCells (K (F := F)).hsToks) (initOf (Pipeline.cells (Pipeline.pin (pcfgs (F := F)) adm) cells_inj) (Pipeline.launchToks (Pipeline.pin (pcfgs (F := F)) adm) cells_inj), (1 : Counters))) $$ Hu
  icases H with ⟨HH, HR⟩
  ihave H := (own_pair_emb embR (initOf (Pipeline.cells (Pipeline.pin (pcfgs (F := F)) adm) cells_inj) (Pipeline.launchToks (Pipeline.pin (pcfgs (F := F)) adm) cells_inj)) (1 : Counters)) $$ HR
  icases H with ⟨HP, -⟩
  imod (Pipeline.fund_ghost (Pipeline.pin (pcfgs (F := F)) adm) EP cells_inj) $$ HP with ⟨Hc, Ht⟩
  imodintro
  isplitl [HH]; · iexact HH
  isplitl [Hc Ht]
  · iapply (ghost_split (F := F))
    isplitl [Hc]; · iexact Hc
    iexact Ht
  rw [show (bigSep Finset.univ fun thr : Thread nD τ => bigSep Finset.univ fun q : Fin 1 => (P (F := F) m).x q thr) = bigSep Finset.univ fun _ => iprop(emp) from
    (bigSep_congr fun _ _ => bigSep_univ_of_subsingleton (0 : Fin 1)),
    show (bigSep Finset.univ fun _ : Thread nD τ => iprop(emp)) = (iprop(emp) : sProp 𝕄) from bigSep_emp_const _]
  iempintro

/-! ## `@main` on the TensorCore -/

abbrev callBufs : Finset (DevRef τ sig) := {Proc.devRef .tc main_arg0, Proc.devRef .tc main_v0}

theorem callBufs_sub : callBufs ⊆ Pipeline.ucRefs τ sig := by decide

theorem held_callBufs (d : Dev nD) (W : Valuation τ sig (Elt F)) :
    (StableHlo.held (d.tc : Thread nD τ) callBufs W : sProp 𝕄)
      = iprop((xLoc d ↦{fullShare} W (Proc.devRef .tc main_arg0)) ∗ oLoc d ↦{fullShare} W (Proc.devRef .tc main_v0)) := by
  unfold StableHlo.held
  rw [SparseCore.bigSep_insert' (by decide), bigSep_singleton]

theorem held_call (d : Dev nD) (W : Valuation τ sig (Elt F)) :
    (StableHlo.held (d.tc : Thread nD τ) (Pipeline.ucRefs τ sig) W : sProp 𝕄)
      = iprop(((xLoc d ↦{fullShare} W (Proc.devRef .tc main_arg0)) ∗ oLoc d ↦{fullShare} W (Proc.devRef .tc main_v0))
          ∗ StableHlo.held (d.tc : Thread nD τ) (Pipeline.ucRefs τ sig \ callBufs) W) := by
  rw [StableHlo.held_sub_split (d.tc : Thread nD τ) callBufs_sub, held_callBufs]

theorem V0'_v0 (d : Dev nD) : V0' m d (Proc.devRef .tc main_v0) = oOut (m (xLoc d)) := Function.update_self ..
theorem V0'_ne (d : Dev nD) (b : DevRef τ sig) (h : b ≠ Proc.devRef .tc main_v0) : V0' m d b = m (d, b) := Function.update_of_ne h ..

theorem held_V0 (d : Dev nD) :
    (StableHlo.held (d.tc : Thread nD τ) (Pipeline.ucRefs τ sig) (V0 m d) : sProp 𝕄)
      = iprop(((xLoc d ↦{fullShare} m (xLoc d)) ∗ oLoc d ↦{fullShare} m (oLoc d))
          ∗ StableHlo.held (d.tc : Thread nD τ) (Pipeline.ucRefs τ sig \ callBufs) (V0 m d)) := held_call d (V0 m d)

theorem held_V0' (d : Dev nD) :
    (StableHlo.held (d.tc : Thread nD τ) (Pipeline.ucRefs τ sig) (V0' m d) : sProp 𝕄)
      = iprop(((xLoc d ↦{fullShare} m (xLoc d)) ∗ oLoc d ↦{fullShare} oOut (m (xLoc d)))
          ∗ StableHlo.held (d.tc : Thread nD τ) (Pipeline.ucRefs τ sig \ callBufs) (V0 m d)) := by
  rw [held_call, V0'_v0, V0'_ne m d _ (by decide),
    StableHlo.held_congr (V := V0' m d) (V' := V0 m d) (d.tc : Thread nD τ) fun b hb => V0'_ne m d b fun e => (Finset.mem_sdiff.mp hb).2 (by rw [e]; decide)]

theorem st0_eq (d : Dev nD) : (bigSep Finset.univ fun c : Fin ((K (F := F)).nCore 0) => (P m).st 0 d c)
    = iprop((bigSep Finset.univ fun c : Fin 2 => xC m d c) ∗ oLoc d ↦{fullShare} m (oLoc d)) := by
  rw [oT_rows, ← bigSep_sep']; rfl
theorem dn0_eq (d : Dev nD) : (bigSep Finset.univ fun c : Fin ((K (F := F)).nCore 0) => (P m).dn 0 d c)
    = iprop((bigSep Finset.univ fun c : Fin 2 => xC m d c) ∗ oLoc d ↦{fullShare} oOut (m (xLoc d))) := by
  rw [oT_rows, ← bigSep_sep']; rfl

/-- The TensorCore's standing after the SparseCore call: nothing owed, and the rest. -/
theorem tcSt_one (d : Dev nD) : ∃ R : sProp 𝕄, (K (F := F)).tcSt EH d 1 = iprop(owesB d ∗ R) := by
  unfold SparseCore.Cfg.tcSt
  rw [(K (F := F)).Otc_end d (le_refl 1)]
  exact ⟨_, rfl⟩

set_option backward.isDefEq.respectTransparency.types false in
theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  obtain ⟨R, hR⟩ := tcSt_one (F := F) d
  unfold SparseCore.Cfg.tcRes SparseCore.Cfg.tcEnd
  rw [show unscopedBufs d (fun b => m ((SparseCore.T d).loc b)) = StableHlo.held (d.tc : Thread nD τ) (Pipeline.ucRefs τ sig) (V0 m d) from
    Pipeline.unscopedBufs_held d (V0 m d), held_V0, main_eq m d, wp_bind]
  iintro ⟨#Hctx, Hst, ⟨Hb, ⟨⟨Hx, Ho⟩, Hrest⟩, Hts, -⟩, HG⟩
  ihave Hx' := (Transfers.pointsTo_toks (ℓ := xLoc d) (S := Finset.univ) (f := m (xLoc d)) fullShare 2).1 $$ Hx
  icases Hx' with ⟨Hxr, Hx⟩
  iapply ((K (F := F)).wp_run (D (F := F)) 𝒱 (EH := EH) (P := P m) κ d 0) $$ [Hst Hx Ho Hxr Hrest HG Hb Hts]
  isplitr; · iexact Hctx
  isplitl [Hst]; · iexact Hst
  isplitl [Hx Ho]
  · rw [st0_eq]
    isplitl [Hx]; · iexact Hx
    iexact Ho
  iintro ⟨Hst, Hdn⟩
  ihave Hdn' := (Entails.of_eq (dn0_eq m d)) $$ Hdn
  icases Hdn' with ⟨Hx, Ho⟩
  ihave Hx := (Transfers.pointsTo_toks (ℓ := xLoc d) (S := Finset.univ) (f := m (xLoc d)) fullShare 2).2 $$ [Hxr Hx]
  · isplitl [Hxr]; · iexact Hxr
    iexact Hx
  ihave Hst' := (show (K (F := F)).tcSt EH d ((0 : Fin 1).val + 1) ⊢ iprop(owesB d ∗ R) from Entails.of_eq hR) $$ Hst
  icases Hst' with ⟨HO, HR⟩
  iapply (tail_run m d)
  isplitl [HR Hts]
  · iintro ⟨Hb, HF, HO, -⟩
    rw [hR]
    isplitl [HO HR]
    · isplitl [HO] <;> iassumption
    isplitl [HF]; · iexact HF
    isplitl [Hb] <;> iassumption
  isplitl [Hb]; · iexact Hb
  isplitl [Hx Ho Hrest HO]
  · isplitl [Hx Ho Hrest]
    · rw [held_V0']
      isplitl [Hx Ho]
      · isplitl [Hx] <;> iassumption
      iexact Hrest
    · isplitl [HO]; · iexact HO
      iempintro
  isplitr
  · iapply ((K (F := F)).ctx_levAts (EH := EH) (P := P m) κ); iexact Hctx
  iexact HG

def fq (d : Dev nD) (s' : Phys nD τ sig (Elt F)) : Prop := ∀ b ∈ Pipeline.ucRefs τ sig, s'.mem.mem (d, b) = V4 m d b

theorem hfin (d : Dev nD) (s' : Phys nD τ sig (Elt F)) : iprop(FIN m d ∗ SI s') ⊢ (⌜fq m d s'⌝ : sProp 𝕄) := by
  have one : ∀ b ∈ Pipeline.ucRefs τ sig, iprop(FIN m d ∗ SI s') ⊢ (⌜s'.mem.mem (d, b) = V4 m d b⌝ : sProp 𝕄) := fun b hb => by
    iintro ⟨HF, HSI⟩
    ihave Hb := (show (FIN m d : sProp 𝕄) ⊢ ((d, b) ↦{fullShare} V4 m d b) from
      bigSep_elim (Φ := fun b => ((d, b) ↦{fullShare} V4 m d b : sProp 𝕄)) hb) $$ HF
    ihave H := (SI_pointsTo_agree (st := s') (ℓ := (d, b)) (I := Finset.univ) (q := fullShare) (f := V4 m d b)) $$ [HSI Hb]
    · isplitl [HSI] <;> iassumption
    icases H with %h
    ipureintro; exact funext fun i => h i (Finset.mem_univ i)
  exact ((Laws.forall_intro fun b => (Laws.forall_intro fun hb => one b hb).trans Laws.pure_forall.2).trans Laws.pure_forall.2)

/-! ## The program's run -/

/-- At the end every unscoped buffer of a device's TensorCore holds what `V4` says, and every semaphore is back at zero. -/
def QC : PUnit × MemSt nD τ sig (Elt F) → Prop := fun r => (∀ c : Dev nD, ∀ b ∈ Pipeline.ucRefs τ sig, r.2.mem (c, b) = V4 m c b) ∧ r.2.sem = fun _ => 0

theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m)
    (fun q _ => match q with | 0 => SparseCore.Cfg.VecSplit.of_plain (vecSplit m))
    m ρ main (G (F := F)) (FIN m) (u₀ (F := F)) (sep_elim_left.trans (hu₀ m)) (hmain m ρ) (fq m) (hfin m) (QC m) (fun _ h hz => ⟨h, hz⟩)

end Cert.Proof.K

end
-- ==== Proof.Frames.lean ====
/-
  The argument ends as it began; the programs' frames.
-/
module

public import proofs.«01_k».proof.Proof.Run
public import proofs.«01_k».proof.Proof.Gen.Kernel
public import proofs.«01_k».proof.Proof.Gen.ReferenceIdeal.Run
public import proofs.«01_k».proof.Defs

@[expose] public section

noncomputable section

namespace Cert.Proof.K

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.TcCoe

variable {F : FTy → Type} [FloatOps F]

local notation "𝕄" => MT nD τ sig (HIx 1) (Elt F) ℕ UU ℕ

variable (m : (ℓ : Loc nD τ sig) → Buf (Elt F) ℓ) (ρ : Dev nD → PrngReg)

theorem arr1_inj : Function.Injective (Pipeline.arrRef spec1) := by decide
theorem arr2_inj : Function.Injective (Pipeline.arrRef spec2) := by decide

theorem V1_arg0 (d : Dev nD) : V1 m d (Proc.devRef .tc main_arg0) = m (xLoc d) := by
  unfold V1
  rw [StableHlo.after_cons, StableHlo.after_nil, StableHlo.reshape_result_ne _ _ _ _ _ _ _ (by decide)]
  exact V0'_ne m d _ (by decide)

theorem V2_arg0 (d : Dev nD) : V2 m d (Proc.devRef .tc main_arg0) = m (xLoc d) := by
  refine (Pipeline.afterRegion_keeps (dat1 (V1 m d) d) (V1 m d) arr1_inj (fun _ => rfl) main_arg0 (by decide)).trans (V1_arg0 m d)

theorem V3_arg0 (d : Dev nD) : V3 m d (Proc.devRef .tc main_arg0) = m (xLoc d) := by
  refine (Pipeline.afterRegion_keeps (dat2 (V2 m d) d) (V2 m d) arr2_inj (fun _ => rfl) main_arg0 (by decide)).trans (V2_arg0 m d)

theorem V4_arg0 (d : Dev nD) : V4 m d (Proc.devRef .tc main_arg0) = m (xLoc d) := by
  unfold V4
  rw [StableHlo.after_cons, StableHlo.after_cons, StableHlo.after_cons, StableHlo.after_cons, StableHlo.after_nil,
    StableHlo.reshape_result_ne _ _ _ _ _ _ _ (by decide), StableHlo.binary_result_ne _ _ _ _ _ _ _ _ (by decide),
    StableHlo.nullary_result_ne _ _ _ _ (by decide), StableHlo.reshape_result_ne _ _ _ _ _ _ _ (by decide)]
  exact V3_arg0 m d

theorem arg0_mem : (Proc.devRef .tc main_arg0 : DevRef τ sig) ∈ Pipeline.ucRefs τ sig := by decide
theorem v5_mem : (Proc.devRef .tc main_v5 : DevRef τ sig) ∈ Pipeline.ucRefs τ sig := by decide
theorem v6_mem : (Proc.devRef .tc main_v6 : DevRef τ sig) ∈ Pipeline.ucRefs τ sig := by decide

/-- The idealized kernel's frame. -/
theorem frame_kernelIdeal : Cert.quiescent_KernelIdeal := fun m ρ _ =>
  (θ_run Cert.KernelIdeal.defs _ _).mono (fun _ h => ⟨fun c => (h.1 c _ arg0_mem).trans (V4_arg0 m c), h.2⟩) (run_main (F := Ideal) m ρ)

/-! ### The two programs are the same text -/

theorem sc_body_same : @Cert.Kernel.cc0__sc_partials F _ _ = @Cert.KernelIdeal.cc0__sc_partials F _ _ := by rfl

theorem chain_body_same : @Cert.Kernel.cc2__tc_chain_body F _ _ = @Cert.KernelIdeal.cc2__tc_chain_body F _ _ := by rfl

theorem bodies_same : @Cert.Kernel.defs₀ F _ _ = @Cert.KernelIdeal.defs₀ F _ _ := by
  funext p l a
  match p, l, a with
  | .tc, 0, _ => rfl
  | .tc, 1, (_, _) => rfl
  | .tc, 2, (_, _) => rfl
  | .scVector _ _, 0, _ => rfl
  | .scVector _ _, 1, _ => rfl
  | .scVector _ _, 2, _ => rfl
  | .scScalar _, _, _ => rfl

theorem table_same : @Cert.Kernel.defs F _ _
    = (Cert.KernelIdeal.sc (F := F)).defs (Pipeline.defs Cert.KernelIdeal.pcfgs Cert.Kernel.defs₀) := by
  unfold Cert.Kernel.defs
  rfl

theorem table_of_bodies : (Cert.KernelIdeal.sc (F := F)).defs (Pipeline.defs Cert.KernelIdeal.pcfgs Cert.Kernel.defs₀)
    = @Cert.KernelIdeal.defs F _ _ := by
  unfold Cert.KernelIdeal.defs
  rw [← bodies_same]

theorem main_same : Cert.Kernel.main (F := F) = Cert.KernelIdeal.main (F := F) := by
  funext d
  unfold Cert.Kernel.main Cert.KernelIdeal.main
  rfl

theorem threads_same : Cert.Kernel.sc.threads (Cert.Kernel.main (F := F)) = (Cert.KernelIdeal.sc (F := F)).threads Cert.KernelIdeal.main := by
  rw [← main_same]
  rfl

/-- A run of a program is a run of any program equal to it. -/
theorem run_congr {Λ : Labels} {D D' : Defs nD τ sig (Elt F) Λ} {t t' : (c : Thread nD τ) → Prog (TpuEff nD τ sig (Elt F) Λ c.2) PUnit}
    (hD : D = D') (ht : t = t') (s) (Q) (h : θ_run D' t' s Q) : θ_run D t s Q := by
  subst hD ht
  exact h

/-- The kernel's frame: its text is the idealized kernel's, and the run was written for any floats. -/
theorem frame_kernel : Cert.quiescent_Kernel := fun m ρ _ =>
  run_congr (table_same.trans table_of_bodies) threads_same _ _
    ((θ_run Cert.KernelIdeal.defs _ _).mono (fun _ h => ⟨fun c => (h.1 c _ arg0_mem).trans (V4_arg0 (F := Bits) m c), h.2⟩)
      (run_main (F := Bits) m ρ))

/-- The reference's frame. -/
theorem frame_reference : Cert.quiescent_ReferenceIdeal := fun m ρ _ =>
  (θ_run Cert.ReferenceIdeal.defs _ _).mono (fun r h => ⟨fun c => (h c).2.2, Idealize.ShloMosaic.sem_eq_zero_of_no_sems (by decide) r.2⟩)
    (Cert.ReferenceIdeal.Value.run (F := Ideal) m ρ)

end Cert.Proof.K

end
-- ==== Proof.Sums.lean ====
/-
  The values the two dense passes and the tiles store, as sums over the extended reals.
-/
module

public import proofs.«01_k».proof.Proof.Dat2
public import proofs.«01_k».proof.Proof.TileVal
public import Idealize.ShloMosaic.PureOps.Ideal.Laws
public import Idealize.ShloMosaic.Lib.ValueIdx
public import Idealize.ShloMosaic.Lib.Pipeline.Value

@[expose] public section

noncomputable section

namespace Cert.Proof.K

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.TcCoe
open Idealize.ShloMosaic.ValueIdx (select_one select_zero)

/-! ## Sums of rows -/

/-- Row `r` of a block of 128 columns, at column `c`. -/
def row {n : ℕ} [NeZero n] (v : (⟨2, ![n, 128]⟩ : Shape).Idx → EReal) (c : Fin 128) (r : ℕ) : EReal := v (ix2 (Fin.ofNat n r) c)

theorem row_fin {n : ℕ} [NeZero n] (v : (⟨2, ![n, 128]⟩ : Shape).Idx → EReal) (c : Fin 128) (r : Fin n) : row v c r.val = v (ix2 r c) := by
  unfold row
  rw [show Fin.ofNat n r.val = r from Fin.ext (Nat.mod_eq_of_lt r.isLt)]

theorem zero_bits : (Scalar.ofBits .f32 0x00000000#32 : Ideal .f32) = (0 : EReal) := by
  exact Ideal.ofBits_zero_f32

/-- A sum over consecutive blocks of rows is the sum over all their rows. -/
theorem sum_blocks (f : ℕ → EReal) (B : ℕ) : ∀ W : ℕ,
    ∑ w ∈ Finset.range W, ∑ k ∈ Finset.range B, f (B * w + k) = ∑ k ∈ Finset.range (B * W), f k
  | 0 => by simp
  | W + 1 => by rw [Finset.sum_range_succ, sum_blocks f B W, Nat.mul_succ, Finset.sum_range_add]

/-- A tile's running sum is the sum of its rows. -/
theorem foldRows_sum (x : S320000x128.Idx → Ideal .f32) (base : ℕ) (c : Fin 128) : ∀ n : ℕ,
    foldRows (F := Ideal) x base c.val n = ∑ k ∈ Finset.range n, row x c (base + k)
  | 0 => by rw [foldRows, Finset.sum_range_zero]; exact zero_bits
  | n + 1 => by
    rw [foldRows, foldRows_sum x base c n, Finset.sum_range_succ]
    refine congrArg (fun z => _ + z) ?_
    unfold at2 row
    rw [show Fin.ofNat 128 c.val = c from Fin.ext (Nat.mod_eq_of_lt c.isLt)]

/-! ## Reading the vector operations at an index -/

theorem cast_up (v : S128.Idx → EReal) (h : S128.ShapeCasts S1x128) (i : Fin 1) (c : Fin 128) :
    shapeCast S1x128 v h (ix2 i c) = v (ix1 c) :=
  shapeCast_apply _ _ _ _ (by
    rw [Shape.rowMajor_val_two, Shape.rowMajor_val_one]
    have := i.isLt
    show c.val = i.val * 128 + c.val
    omega)

theorem cast_down (v : S1x128.Idx → EReal) (h : S1x128.ShapeCasts S128) (c : Fin 128) :
    shapeCast S128 v h (ix1 c) = v (ix2 0 c) :=
  shapeCast_apply _ _ _ _ (by
    rw [Shape.rowMajor_val_two, Shape.rowMajor_val_one]
    show 0 * 128 + c.val = c.val
    omega)

theorem slice_row (s : ℕ) (hs : s < 200) (v : S200x128.Idx → EReal) (h : S200x128.Slices ![s, 0] S1x128) (h' : S1x128.ShapeCasts S128) (c : Fin 128) :
    shapeCast S128 (extractStridedSlice S1x128 ![s, 0] v h) h' (ix1 c) = row v c s := by
  rw [cast_down]
  exact extractStridedSlice_apply _ _ _ _ _ fun a => by
    match a with
    | ⟨0, _⟩ => exact Nat.mod_eq_of_lt hs
    | ⟨1, _⟩ => exact (Nat.zero_add _).symm

theorem addf_at {t : Shape} (a b : t.Idx → EReal) (i : t.Idx) : (addf (F := Ideal) (φ := .f32) a b : t.Idx → EReal) i = a i + b i := rfl

theorem lift_rows {n : ℕ} (h : (⟨2, ![n, 128]⟩ : Shape).Reduces [0] S128) (c : Fin 128) (k : Fin n) : h.lift (ix1 c) k = ix2 k c := by
  funext a
  apply Fin.ext
  show h.liftVal (ix1 c) k.val a = _
  match a with
  | ⟨0, _⟩ => rfl
  | ⟨1, _⟩ => rfl

theorem sum_rows {n : ℕ} [NeZero n] (v : (⟨2, ![n, 128]⟩ : Shape).Idx → EReal) (acc : BitVec 32) (h : (⟨2, ![n, 128]⟩ : Shape).Reduces [0] S128) (hφ) (hacc) (c : Fin 128) :
    (multiReduction (F := Ideal) (φ := .f32) .add [0] S128 v acc h hφ hacc : S128.Idx → EReal) (ix1 c) = ∑ r ∈ Finset.range n, row v c r := by
  rw [Ideal.multiReduction_add_single, Finset.sum_range]
  exact Finset.sum_congr rfl fun k _ => (congrArg v (lift_rows h c k)).trans (row_fin v c k).symm

/-! ## The payloads -/

theorem pay_prefix (a : S1x128.Idx → EReal) (x : S8000x128.Idx → EReal) (c : Fin 128) :
    (k1_pay2 (F := Ideal) a x : S1x128.Idx → EReal) (ix2 0 c) = a (ix2 0 c) + ∑ r ∈ Finset.range 8000, row x c r := by
  unfold k1_pay2
  simp only [addf_at, cast_up, shapeCast_self]
  exact congrArg (fun z => a (ix2 0 c) + z) (sum_rows (n := 8000) x _ _ _ _ c)

theorem pay_dense (a : S1x128.Idx → EReal) (x : S2000x128.Idx → EReal) (c : Fin 128) :
    (k2_pay5 (F := Ideal) a x : S1x128.Idx → EReal) (ix2 0 c) = a (ix2 0 c) + ∑ r ∈ Finset.range 2000, row x c r := by
  unfold k2_pay5
  simp only [addf_at, cast_up, shapeCast_self]
  exact congrArg (fun z => a (ix2 0 c) + z) (sum_rows (n := 2000) x _ _ _ _ c)

theorem pay_seed (i : grid2.Coords) (p : S32x128.Idx → EReal) (q s : S1x128.Idx → EReal) (c : Fin 128) :
    (k2_pay2 (F := Ideal) i p q s : S128.Idx → EReal) (ix1 c)
      = if (i 0).val = 0 then (∑ r ∈ Finset.range 32, row p c r) + q (ix2 0 c) else s (ix2 0 c) := by
  unfold k2_pay2
  have hw : ∀ n : Fin 56, (Scalar.cmpi .eq (BitVec.ofNat 32 n.val) 0#32 : BitVec 1) = if n.val = 0 then 1#1 else 0#1 := by decide
  have e : (Scalar.cmpi .eq (BitVec.ofNat 32 (i 0).val) 0#32 : BitVec 1) = if (i 0).val = 0 then 1#1 else 0#1 := hw (i 0)
  dsimp only
  rw [e]
  split
  · simp only [select_one, addf_at, cast_down, shapeCast_self]
    exact congrArg (fun z => z + q (ix2 0 c)) (sum_rows (n := 32) p _ _ _ _ c)
  · simp only [select_zero, cast_down]

theorem pay_store (v : S128.Idx → EReal) (c : Fin 128) : (k2_pay4 (F := Ideal) v : S1x128.Idx → EReal) (ix2 0 c) = v (ix1 c) := by
  unfold k2_pay4
  simp only [cast_up]

theorem pay_rows6 (v : S200x128.Idx → EReal) (a : S128.Idx → EReal) (c : Fin 128) :
    (k2_pay6 (F := Ideal) a v : S128.Idx → EReal) (ix1 c) = a (ix1 c) + ∑ r ∈ Finset.range 18, row v c r := by
  unfold k2_pay6
  simp (discharger := decide) only [addf_at, slice_row]
  simp only [Finset.sum_range_succ, Finset.sum_range_zero, zero_add, add_assoc]

theorem pay_rows7 (v : S200x128.Idx → EReal) (a : S128.Idx → EReal) (c : Fin 128) :
    (k2_pay7 (F := Ideal) v a : S128.Idx → EReal) (ix1 c) = a (ix1 c) + ∑ r ∈ Finset.range 20, row v c (18 + r) := by
  unfold k2_pay7
  simp (discharger := decide) only [addf_at, slice_row]
  simp only [Finset.sum_range_succ, Finset.sum_range_zero, zero_add, add_assoc, Nat.reduceAdd, Nat.add_zero]

theorem pay_rows8 (v : S200x128.Idx → EReal) (a : S128.Idx → EReal) (c : Fin 128) :
    (k2_pay8 (F := Ideal) v a : S128.Idx → EReal) (ix1 c) = a (ix1 c) + ∑ r ∈ Finset.range 20, row v c (38 + r) := by
  unfold k2_pay8
  simp (discharger := decide) only [addf_at, slice_row]
  simp only [Finset.sum_range_succ, Finset.sum_range_zero, zero_add, add_assoc, Nat.reduceAdd, Nat.add_zero]

theorem pay_rows9 (v : S200x128.Idx → EReal) (a : S128.Idx → EReal) (c : Fin 128) :
    (k2_pay9 (F := Ideal) v a : S128.Idx → EReal) (ix1 c) = a (ix1 c) + ∑ r ∈ Finset.range 20, row v c (58 + r) := by
  unfold k2_pay9
  simp (discharger := decide) only [addf_at, slice_row]
  simp only [Finset.sum_range_succ, Finset.sum_range_zero, zero_add, add_assoc, Nat.reduceAdd, Nat.add_zero]

theorem pay_rows10 (v : S200x128.Idx → EReal) (a : S128.Idx → EReal) (c : Fin 128) :
    (k2_pay10 (F := Ideal) v a : S128.Idx → EReal) (ix1 c) = a (ix1 c) + ∑ r ∈ Finset.range 20, row v c (78 + r) := by
  unfold k2_pay10
  simp (discharger := decide) only [addf_at, slice_row]
  simp only [Finset.sum_range_succ, Finset.sum_range_zero, zero_add, add_assoc, Nat.reduceAdd, Nat.add_zero]

theorem pay_rows11 (v : S200x128.Idx → EReal) (a : S128.Idx → EReal) (c : Fin 128) :
    (k2_pay11 (F := Ideal) v a : S128.Idx → EReal) (ix1 c) = a (ix1 c) + ∑ r ∈ Finset.range 20, row v c (98 + r) := by
  unfold k2_pay11
  simp (discharger := decide) only [addf_at, slice_row]
  simp only [Finset.sum_range_succ, Finset.sum_range_zero, zero_add, add_assoc, Nat.reduceAdd, Nat.add_zero]

theorem pay_rows12 (v : S200x128.Idx → EReal) (a : S128.Idx → EReal) (c : Fin 128) :
    (k2_pay12 (F := Ideal) v a : S128.Idx → EReal) (ix1 c) = a (ix1 c) + ∑ r ∈ Finset.range 20, row v c (118 + r) := by
  unfold k2_pay12
  simp (discharger := decide) only [addf_at, slice_row]
  simp only [Finset.sum_range_succ, Finset.sum_range_zero, zero_add, add_assoc, Nat.reduceAdd, Nat.add_zero]

theorem pay_rows13 (v : S200x128.Idx → EReal) (a : S128.Idx → EReal) (c : Fin 128) :
    (k2_pay13 (F := Ideal) v a : S128.Idx → EReal) (ix1 c) = a (ix1 c) + ∑ r ∈ Finset.range 20, row v c (138 + r) := by
  unfold k2_pay13
  simp (discharger := decide) only [addf_at, slice_row]
  simp only [Finset.sum_range_succ, Finset.sum_range_zero, zero_add, add_assoc, Nat.reduceAdd, Nat.add_zero]

theorem pay_rows14 (v : S200x128.Idx → EReal) (a : S128.Idx → EReal) (c : Fin 128) :
    (k2_pay14 (F := Ideal) v a : S128.Idx → EReal) (ix1 c) = a (ix1 c) + ∑ r ∈ Finset.range 20, row v c (158 + r) := by
  unfold k2_pay14
  simp (discharger := decide) only [addf_at, slice_row]
  simp only [Finset.sum_range_succ, Finset.sum_range_zero, zero_add, add_assoc, Nat.reduceAdd, Nat.add_zero]

theorem pay_rows15 (v : S200x128.Idx → EReal) (a : S128.Idx → EReal) (c : Fin 128) :
    (k2_pay15 (F := Ideal) v a : S128.Idx → EReal) (ix1 c) = a (ix1 c) + ∑ r ∈ Finset.range 20, row v c (178 + r) := by
  unfold k2_pay15
  simp (discharger := decide) only [addf_at, slice_row]
  simp only [Finset.sum_range_succ, Finset.sum_range_zero, zero_add, add_assoc, Nat.reduceAdd, Nat.add_zero]

theorem pay_rows3 (v : S200x128.Idx → EReal) (a : S128.Idx → EReal) (c : Fin 128) :
    (k2_pay3 (F := Ideal) v a : S128.Idx → EReal) (ix1 c) = a (ix1 c) + ∑ r ∈ Finset.range 2, row v c (198 + r) := by
  unfold k2_pay3
  simp (discharger := decide) only [addf_at, slice_row]
  simp only [Finset.sum_range_succ, Finset.sum_range_zero, zero_add, Nat.reduceAdd, Nat.add_zero]

/-- A trip adds its 200 rows. -/
theorem trip_sum (x : S2000x128.Idx → EReal) (k : Fin k2_t1_loop.trips) (a : S128.Idx → EReal) (c : Fin 128) :
    (tripC (F := Ideal) x k a : S128.Idx → EReal) (ix1 c) = a (ix1 c) + ∑ r ∈ Finset.range 200, row (winC (F := Ideal) x k) c r := by
  have e : ∀ f : ℕ → EReal, ∑ r ∈ Finset.range 200, f r = (∑ r ∈ Finset.range 18, f r) + (∑ r ∈ Finset.range 20, f (18 + r))
      + (∑ r ∈ Finset.range 20, f (38 + r)) + (∑ r ∈ Finset.range 20, f (58 + r)) + (∑ r ∈ Finset.range 20, f (78 + r))
      + (∑ r ∈ Finset.range 20, f (98 + r)) + (∑ r ∈ Finset.range 20, f (118 + r)) + (∑ r ∈ Finset.range 20, f (138 + r))
      + (∑ r ∈ Finset.range 20, f (158 + r)) + (∑ r ∈ Finset.range 20, f (178 + r)) + (∑ r ∈ Finset.range 2, f (198 + r)) := fun f => by
    simp only [← Finset.sum_range_add, Nat.reduceAdd]
  unfold tripC
  rw [pay_rows3 _ _ c, pay_rows15 _ _ c, pay_rows14 _ _ c, pay_rows13 _ _ c, pay_rows12 _ _ c, pay_rows11 _ _ c, pay_rows10 _ _ c, pay_rows9 _ _ c, pay_rows8 _ _ c, pay_rows7 _ _ c, pay_rows6 _ _ c, e (row (winC (F := Ideal) x k) c)]
  simp only [add_assoc]

theorem win_row (x : S2000x128.Idx → EReal) (k : Fin k2_t1_loop.trips) (c : Fin 128) (r : ℕ) (hr : r < 200) :
    row (winC (F := Ideal) x k) c r = row x c (200 * k.val + r) := by
  have hk : k.val < 10 := Nat.lt_of_lt_of_le k.isLt k2_t1_abs.2.1
  unfold row winC
  refine congrArg x (funext fun a => Fin.ext ?_)
  have ho : ∀ k : Fin k2_t1_loop.trips, k2_off1 k 0 = 200 * k.val ∧ k2_off1 k 1 = 0 := by decide
  match a with
  | ⟨0, _⟩ =>
    show k2_off1 k 0 + 1 * (r % 200) = (200 * k.val + r) % 2000
    rw [(ho k).1, Nat.mod_eq_of_lt hr, Nat.mod_eq_of_lt (by omega)]
    omega
  | ⟨1, _⟩ =>
    show k2_off1 k 1 + 1 * c.val = c.val
    rw [(ho k).2]
    omega

/-- The loop adds its first `200 n` rows. -/
theorem loop_sum (x : S2000x128.Idx → EReal) (a : S128.Idx → EReal) (c : Fin 128) : ∀ n : ℕ, n ≤ k2_t1_loop.trips →
    (stC (F := Ideal) x a n : S128.Idx → EReal) (ix1 c) = a (ix1 c) + ∑ r ∈ Finset.range (200 * n), row x c r
  | 0, _ => by simp [stC]
  | n + 1, h => by
    rw [stC_succ (F := Ideal) x a ⟨n, h⟩, trip_sum _ _ _ c, loop_sum x a c n (Nat.le_of_succ_le h), Nat.mul_succ, Finset.sum_range_add, add_assoc]
    refine congrArg (fun z => _ + (_ + z)) (Finset.sum_congr rfl fun r hr => ?_)
    exact win_row x ⟨n, h⟩ c r (Finset.mem_range.1 hr)

theorem pay_chain (i : grid2.Coords) (p : S32x128.Idx → EReal) (q s : S1x128.Idx → EReal) (x : S2000x128.Idx → EReal) (c : Fin 128) :
    (stepS (F := Ideal) i p q s x : S1x128.Idx → EReal) (ix2 0 c)
      = (if (i 0).val = 0 then (∑ r ∈ Finset.range 32, row p c r) + q (ix2 0 c) else s (ix2 0 c)) + ∑ r ∈ Finset.range 2000, row x c r := by
  have ht : k2_t1_loop.trips = 10 := by decide
  unfold stepS
  rw [pay_store _ c, loop_sum x _ c _ le_rfl, pay_seed _ _ _ _ c, ht]

end Cert.Proof.K

end
-- ==== Proof.Exit.lean ====
/-
  What the arrays of the two dense passes hold at the end, and what the passes read.
-/
module

public import proofs.«01_k».proof.Proof.Frames
public import Idealize.ShloMosaic.Lib.Pipeline.Value

@[expose] public section

noncomputable section

namespace Cert.Proof.K

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.TcCoe

variable {F : FTy → Type} [FloatOps F]

local notation "𝕄" => MT nD τ sig (HIx 1) (Elt F) ℕ UU ℕ

section Arrays
theorem lt9 : 9 < cfg1.N := by rw [show cfg1.N = 10 from N_1]; decide

theorem lt55 : 55 < cfg2.N := by rw [show cfg2.N = 56 from N_2]; decide
variable (V : Valuation τ sig (Elt F)) (d : Dev nD)

theorem zero_exit_prefix (t : Fin cfg1.N) : (fun a => win1_1.index t a * main_v2.ty.shape.size a) = fun _ => 0 := by
  funext a
  match a with
  | ⟨0, _⟩ => rfl
  | ⟨1, _⟩ => rfl

theorem mem_exit_prefix (t : Fin cfg1.N) (i : main_v2.ty.shape.Idx) : i ∈ ((View.whole main_v2).slice (win1_1.rect t)).set := by
  rw [View.set_slice_whole, Rect.mem_set_unit]
  intro a
  have h0 : (i 0 : Nat) < 1 := (i 0).isLt
  have h1 : (i 1 : Nat) < 128 := (i 1).isLt
  match a with
  | ⟨0, _⟩ => exact ⟨Nat.zero_le _, h0⟩
  | ⟨1, _⟩ => exact ⟨Nat.zero_le _, h1⟩

theorem exit_prefix : (dat1 V d).arrAt 1 cfg1.N = accP V 10 := by
  have hN : cfg1.N = 10 := N_1
  refine (dat1 V d).arrAt_eq_of_cover 1 (accP V 10) (fun t hf => ?_) (fun i => ⟨⟨9, lt9⟩, (flush1_1 _).2 rfl, mem_exit_prefix _ i⟩)
  have ht : t.val = 9 := by
    have := (flush1_1 t).1 hf
    have : t.val < cfg1.N := t.isLt
    omega
  rw [show t = ⟨9, lt9⟩ from Fin.ext ht]
  exact (Memref.read_access_unit_zero (Elt F) main_v2 (zero_exit_prefix _) (fun a => by rw [congrFun (zero_exit_prefix _) a]; simp) _).symm

theorem zero_exit_sum (t : Fin cfg2.N) : (fun a => win2_4.index t a * main_v3_1.ty.shape.size a) = fun _ => 0 := by
  funext a
  match a with
  | ⟨0, _⟩ => rfl
  | ⟨1, _⟩ => rfl

theorem mem_exit_sum (t : Fin cfg2.N) (i : main_v3_1.ty.shape.Idx) : i ∈ ((View.whole main_v3_1).slice (win2_4.rect t)).set := by
  rw [View.set_slice_whole, Rect.mem_set_unit]
  intro a
  have h0 : (i 0 : Nat) < 1 := (i 0).isLt
  have h1 : (i 1 : Nat) < 128 := (i 1).isLt
  match a with
  | ⟨0, _⟩ => exact ⟨Nat.zero_le _, h0⟩
  | ⟨1, _⟩ => exact ⟨Nat.zero_le _, h1⟩

theorem exit_sum : (dat2 V d).arrAt 4 cfg2.N = accS V 56 := by
  have hN : cfg2.N = 56 := N_2
  refine (dat2 V d).arrAt_eq_of_cover 4 (accS V 56) (fun t hf => ?_) (fun i => ⟨⟨55, lt55⟩, (flush2_4 _).2 rfl, mem_exit_sum _ i⟩)
  have ht : t.val = 55 := by
    have := (flush2_4 t).1 hf
    have : t.val < cfg2.N := t.isLt
    omega
  rw [show t = ⟨55, lt55⟩ from Fin.ext ht]
  exact (Memref.read_access_unit_zero (Elt F) main_v3_1 (zero_exit_sum _) (fun a => by rw [congrFun (zero_exit_sum _) a]; simp) _).symm

theorem zero_exit_flag (t : Fin cfg2.N) : (fun a => win2_5.index t a * main_v3_2.ty.shape.size a) = fun _ => 0 := by
  funext a
  match a with
  | ⟨0, _⟩ => rfl
  | ⟨1, _⟩ => rfl

theorem mem_exit_flag (t : Fin cfg2.N) (i : main_v3_2.ty.shape.Idx) : i ∈ ((View.whole main_v3_2).slice (win2_5.rect t)).set := by
  rw [View.set_slice_whole, Rect.mem_set_unit]
  intro a
  have h0 : (i 0 : Nat) < 1 := (i 0).isLt
  have h1 : (i 1 : Nat) < 1 := (i 1).isLt
  match a with
  | ⟨0, _⟩ => exact ⟨Nat.zero_le _, h0⟩
  | ⟨1, _⟩ => exact ⟨Nat.zero_le _, h1⟩

theorem exit_flag : (dat2 V d).arrAt 5 cfg2.N = fun _ => okAt V ⟨55, lt55⟩ := by
  have hN : cfg2.N = 56 := N_2
  refine (dat2 V d).arrAt_eq_of_cover 5 (fun _ => okAt V ⟨55, lt55⟩) (fun t hf => ?_) (fun i => ⟨⟨55, lt55⟩, (flush2_5 _).2 rfl, mem_exit_flag _ i⟩)
  have ht : t.val = 55 := by
    have := (flush2_5 t).1 hf
    have : t.val < cfg2.N := t.isLt
    omega
  rw [show t = ⟨55, lt55⟩ from Fin.ext ht]
  exact (Memref.read_access_unit_zero (Elt F) main_v3_2 (zero_exit_flag _) (fun a => by rw [congrFun (zero_exit_flag _) a]; simp) _).symm

/-! ### The blocks read -/

theorem index1_0 : ∀ t : Fin grid1.N, win1_0.index t 0 = 16 + t.val ∧ win1_0.index t 1 = 0 := by decide
theorem index2_0 : ∀ t : Fin grid2.N, win2_0.index t 0 = 104 + t.val ∧ win2_0.index t 1 = 0 := by decide

theorem xBlk1_at (t : Fin cfg1.N) (r : Fin 8000) (c : Fin 128) :
    xBlk1 V t (ix2 r c) = V (Proc.devRef .tc main_arg0) (ix2 (Fin.ofNat 320000 (128000 + (8000 * t.val + r.val))) c) := by
  have hN : cfg1.N = 10 := N_1
  have ht := t.isLt
  unfold xBlk1
  rw [View.read_apply]
  refine congrArg (V (Proc.devRef .tc main_arg0)) (funext fun a => Fin.ext ?_)
  match a with
  | ⟨0, _⟩ =>
    show win1_0.index t 0 * 8000 + 1 * r.val = (128000 + (8000 * t.val + r.val)) % 320000
    rw [(index1_0 t).1, Nat.mod_eq_of_lt (by omega)]
    omega
  | ⟨1, _⟩ =>
    show win1_0.index t 1 * 128 + 1 * c.val = c.val
    rw [(index1_0 t).2]
    omega

theorem xBlk2_at (t : Fin cfg2.N) (r : Fin 2000) (c : Fin 128) :
    xBlk2 V t (ix2 r c) = V (Proc.devRef .tc main_arg0) (ix2 (Fin.ofNat 320000 (208000 + (2000 * t.val + r.val))) c) := by
  have hN : cfg2.N = 56 := N_2
  have ht := t.isLt
  unfold xBlk2
  rw [View.read_apply]
  refine congrArg (V (Proc.devRef .tc main_arg0)) (funext fun a => Fin.ext ?_)
  match a with
  | ⟨0, _⟩ =>
    show win2_0.index t 0 * 2000 + 1 * r.val = (208000 + (2000 * t.val + r.val)) % 320000
    rw [(index2_0 t).1, Nat.mod_eq_of_lt (by omega)]
    omega
  | ⟨1, _⟩ =>
    show win2_0.index t 1 * 128 + 1 * c.val = c.val
    rw [(index2_0 t).2]
    omega

theorem scpBlk_eq (t : Fin cfg2.N) : scpBlk V t = V (Proc.devRef .tc main_v1) := by
  have hz : (fun a => win2_1.index t a * main_v1.ty.shape.size a) = fun _ => 0 := by
    funext a
    match a with
    | ⟨0, _⟩ => rfl
    | ⟨1, _⟩ => rfl
  exact Memref.read_access_unit_zero (Elt F) main_v1 hz (fun a => by rw [congrFun hz a]; simp) _

theorem tcpBlk_eq (t : Fin cfg2.N) : tcpBlk V t = V (Proc.devRef .tc main_v2) := by
  have hz : (fun a => win2_2.index t a * main_v2.ty.shape.size a) = fun _ => 0 := by
    funext a
    match a with
    | ⟨0, _⟩ => rfl
    | ⟨1, _⟩ => rfl
  exact Memref.read_access_unit_zero (Elt F) main_v2 hz (fun a => by rw [congrFun hz a]; simp) _

end Arrays

/-! ## The chain of the host's arrays -/

variable (m : (ℓ : Loc nD τ sig) → Buf (Elt F) ℓ)

theorem V1_v1 (d : Dev nD) : V1 m d (Proc.devRef .tc main_v1) = shapeCast S32x128 (oOut (m (xLoc d))) shapeCasts_S32x8x16_S32x128 := by
  unfold V1
  rw [StableHlo.after_cons, StableHlo.after_nil, StableHlo.reshape_result]
  exact congrArg (fun z => shapeCast S32x128 z shapeCasts_S32x8x16_S32x128) (V0'_v0 m d)

theorem V2_v1 (d : Dev nD) : V2 m d (Proc.devRef .tc main_v1) = shapeCast S32x128 (oOut (m (xLoc d))) shapeCasts_S32x8x16_S32x128 :=
  (Pipeline.afterRegion_keeps (dat1 (V1 m d) d) (V1 m d) arr1_inj (fun _ => rfl) main_v1 (by decide)).trans (V1_v1 m d)

theorem V2_v2 (d : Dev nD) : V2 m d (Proc.devRef .tc main_v2) = accP (V1 m d) 10 :=
  (Pipeline.afterRegion_arr (dat1 (V1 m d) d) (V1 m d) arr1_inj 1).trans (exit_prefix (V1 m d) d)

theorem V3_sum (d : Dev nD) : V3 m d (Proc.devRef .tc main_v3_1) = accS (V2 m d) 56 :=
  (Pipeline.afterRegion_arr (dat2 (V2 m d) d) (V2 m d) arr2_inj 4).trans (exit_sum (V2 m d) d)

theorem V3_flag (d : Dev nD) : V3 m d (Proc.devRef .tc main_v3_2) = fun _ => okAt (V2 m d) ⟨55, lt55⟩ :=
  (Pipeline.afterRegion_arr (dat2 (V2 m d) d) (V2 m d) arr2_inj 5).trans (exit_flag (V2 m d) d)

/-- The column sums the program returns. -/
theorem V4_sum (d : Dev nD) : V4 m d (Proc.devRef .tc main_v6) = shapeCast S128 (accS (V2 m d) 56) shapeCasts_S1x128_S128 := by
  unfold V4
  rw [StableHlo.after_cons, StableHlo.after_cons, StableHlo.after_cons, StableHlo.after_cons, StableHlo.after_nil,
    StableHlo.reshape_result, StableHlo.binary_result_ne _ _ _ _ _ _ _ _ (by decide),
    StableHlo.nullary_result_ne _ _ _ _ (by decide), StableHlo.reshape_result_ne _ _ _ _ _ _ _ (by decide)]
  exact congrArg (fun z => shapeCast S128 z shapeCasts_S1x128_S128) (V3_sum m d)

/-- The flag it returns. -/
theorem V4_flag (d : Dev nD) : V4 m d (Proc.devRef .tc main_v5) = fun _ => Scalar.cmpi .ne (okAt (V2 m d) ⟨55, lt55⟩) 0#32 := by
  unfold V4
  rw [StableHlo.after_cons, StableHlo.after_cons, StableHlo.after_cons, StableHlo.after_cons, StableHlo.after_nil,
    StableHlo.reshape_result_ne _ _ _ _ _ _ _ (by decide), StableHlo.binary_result,
    StableHlo.nullary_result_ne _ _ _ _ (by decide), StableHlo.reshape_result, StableHlo.nullary_result]
  funext i
  show cmpi .ne (shapeCast S_ (V3 m d (Proc.devRef .tc main_v3_2)) shapeCasts_S1x1_S_) (constantI S_ 32 0#32) i = _
  rw [V3_flag]
  rfl

end Cert.Proof.K

end
-- ==== Proof.ValK.lean ====
/-
  The program's two results over the extended reals: the column sums, and the flag one.
-/
module

public import proofs.«01_k».proof.Proof.Sums
public import proofs.«01_k».proof.Proof.Exit
public import Idealize.ShloMosaic.PureOps.IdealRules

@[expose] public section

noncomputable section

namespace Cert.Proof.K

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.TcCoe
open ValueIdx (select_one select_zero)

variable {F : FTy → Type} [FloatOps F]

local notation "𝕄" => MT nD τ sig (HIx 1) (Elt F) ℕ UU ℕ

/-! ## The accumulators -/

section Acc
variable (V : Valuation τ sig (Elt Ideal)) (x : S320000x128.Idx → EReal) (hx : V (Proc.devRef .tc main_arg0) = x)
include hx

theorem rows_prefix (t : Fin cfg1.N) (c : Fin 128) :
    ∑ r ∈ Finset.range 8000, row (xBlk1 V t) c r = ∑ r ∈ Finset.range 8000, row x c (128000 + (8000 * t.val + r)) := by
  refine Finset.sum_congr rfl fun r hr => ?_
  have hr' : r < 8000 := Finset.mem_range.1 hr
  have e : xBlk1 V t (ix2 (Fin.ofNat 8000 r) c) = V (Proc.devRef .tc main_arg0) (ix2 (Fin.ofNat 320000 (128000 + (8000 * t.val + (Fin.ofNat 8000 r).val))) c) :=
    xBlk1_at V t _ c
  rw [show (Fin.ofNat 8000 r).val = r from Nat.mod_eq_of_lt hr', hx] at e
  exact e

/-- The prefix's accumulator after `n` blocks. -/
theorem accP_sum (c : Fin 128) : ∀ n : ℕ, n ≤ 10 → (accP V n : S1x128.Idx → EReal) (ix2 0 c) = ∑ k ∈ Finset.range (8000 * n), row x c (128000 + k)
  | 0, _ => by rw [Nat.mul_zero, Finset.sum_range_zero, accP]; exact zero_bits
  | n + 1, h => by
    have hn : n < cfg1.N := by rw [show cfg1.N = 10 from N_1]; omega
    rw [accP_succ V ⟨n, hn⟩, stepP, pay_prefix, rows_prefix V x hx, Nat.mul_succ, Finset.sum_range_add]
    refine congrArg (fun z => z + _) ?_
    split
    · rename_i h0
      obtain rfl : n = 0 := h0
      rw [Nat.mul_zero, Finset.sum_range_zero]
      exact zero_bits
    · exact accP_sum c n (by omega)

theorem rows_dense (t : Fin cfg2.N) (c : Fin 128) :
    ∑ r ∈ Finset.range 2000, row (xBlk2 V t) c r = ∑ r ∈ Finset.range 2000, row x c (208000 + (2000 * t.val + r)) := by
  refine Finset.sum_congr rfl fun r hr => ?_
  have hr' : r < 2000 := Finset.mem_range.1 hr
  have e : xBlk2 V t (ix2 (Fin.ofNat 2000 r) c) = V (Proc.devRef .tc main_arg0) (ix2 (Fin.ofNat 320000 (208000 + (2000 * t.val + (Fin.ofNat 2000 r).val))) c) :=
    xBlk2_at V t _ c
  rw [show (Fin.ofNat 2000 r).val = r from Nat.mod_eq_of_lt hr', hx] at e
  exact e

/-- The dense sum after `n` blocks. -/
theorem accD_sum (c : Fin 128) : ∀ n : ℕ, n ≤ 56 → (accD V n : S1x128.Idx → EReal) (ix2 0 c) = ∑ k ∈ Finset.range (2000 * n), row x c (208000 + k)
  | 0, _ => by rw [Nat.mul_zero, Finset.sum_range_zero, accD]; exact zero_bits
  | n + 1, h => by
    have hn : n < cfg2.N := by rw [show cfg2.N = 56 from N_2]; omega
    rw [accD_succ V ⟨n, hn⟩, stepD, pay_dense, rows_dense V x hx, Nat.mul_succ, Finset.sum_range_add]
    refine congrArg (fun z => z + _) ?_
    split
    · rename_i h0
      obtain rfl : n = 0 := h0
      rw [Nat.mul_zero, Finset.sum_range_zero]
      exact zero_bits
    · exact accD_sum c n (by omega)

/-- The running sum after `n + 1` blocks: the seed, then the blocks' rows. -/
theorem accS_sum (c : Fin 128) : ∀ n : ℕ, n < 56 → (accS V (n + 1) : S1x128.Idx → EReal) (ix2 0 c)
    = ((∑ r ∈ Finset.range 32, row (n := 32) (V (Proc.devRef .tc main_v1)) c r) + (V (Proc.devRef .tc main_v2) : S1x128.Idx → EReal) (ix2 0 c))
      + ∑ k ∈ Finset.range (2000 * (n + 1)), row x c (208000 + k)
  | 0, h => by
    have hn : 0 < cfg2.N := by rw [show cfg2.N = 56 from N_2]; omega
    rw [accS_succ V ⟨0, hn⟩, pay_chain _ _ _ _ _ c, if_pos (coords2 ⟨0, hn⟩), rows_dense V x hx, scpBlk_eq, tcpBlk_eq]
    refine congrArg (fun z => _ + z) (Finset.sum_congr rfl fun k _ => ?_)
    rw [Nat.mul_zero, Nat.zero_add]
  | n + 1, h => by
    have hn : n + 1 < cfg2.N := by rw [show cfg2.N = 56 from N_2]; omega
    have h0 : ¬ ((grid2.coords ⟨n + 1, hn⟩) 0).val = 0 := by rw [coords2]; exact Nat.succ_ne_zero n
    rw [accS_succ V ⟨n + 1, hn⟩, pay_chain _ _ _ _ _ c, if_neg h0, rows_dense V x hx, accS_sum c n (by omega), Nat.mul_succ 2000 (n + 1),
      Finset.sum_range_add, add_assoc]

end Acc

/-! ## The tiles' partial sums -/

theorem tile_at (x : S320000x128.Idx → EReal) (w : Fin 32) (c : Fin 128) :
    (shapeCast S32x128 (oOut (F := Ideal) x) shapeCasts_S32x8x16_S32x128 : S32x128.Idx → EReal) (ix2 w c)
      = ∑ k ∈ Finset.range 4000, row x c (4000 * w.val + k) := by
  have hc := c.isLt
  refine (shapeCast_apply _ _ _ (ix3 w (⟨c.val / 16, by omega⟩ : Fin 8) (⟨c.val % 16, by omega⟩ : Fin 16)) ?_).trans ?_
  · rw [Shape.rowMajor_val_two, Shape.rowMajor_val_three]
    show (w.val * 8 + c.val / 16) * 16 + c.val % 16 = w.val * 128 + c.val
    omega
  · show foldRows (F := Ideal) x (4000 * w.val) (16 * (c.val / 16) + c.val % 16) 4000 = _
    rw [Nat.div_add_mod, foldRows_sum]

theorem tiles_sum (x : S320000x128.Idx → EReal) (c : Fin 128) :
    ∑ r ∈ Finset.range 32, row (n := 32) (shapeCast S32x128 (oOut (F := Ideal) x) shapeCasts_S32x8x16_S32x128 : S32x128.Idx → EReal) c r
      = ∑ k ∈ Finset.range 128000, row x c k := by
  rw [← sum_blocks (row x c) 4000 32]
  refine Finset.sum_congr rfl fun r hr => ?_
  have hr' : r < 32 := Finset.mem_range.1 hr
  refine (tile_at x (Fin.ofNat 32 r) c).trans ?_
  rw [show (Fin.ofNat 32 r).val = r from Nat.mod_eq_of_lt hr']

/-! ## The two totals -/

theorem three_parts (f : ℕ → EReal) :
    ((∑ k ∈ Finset.range 128000, f k) + ∑ k ∈ Finset.range 80000, f (128000 + k)) + ∑ k ∈ Finset.range 112000, f (208000 + k)
      = ∑ k ∈ Finset.range 320000, f k := by
  rw [← Finset.sum_range_add f 128000 80000, ← Finset.sum_range_add f 208000 112000]

variable (m : (ℓ : Loc nD τ sig) → Buf (Elt Ideal) ℓ) (d : Dev nD)

/-- A column's sum over all the rows of `x`. -/
def colSum (x : S320000x128.Idx → EReal) (c : Fin 128) : EReal := ∑ k ∈ Finset.range 320000, row x c k

theorem seed_sum (c : Fin 128) :
    ((∑ r ∈ Finset.range 32, row (n := 32) (V2 m d (Proc.devRef .tc main_v1)) c r) + (V2 m d (Proc.devRef .tc main_v2) : S1x128.Idx → EReal) (ix2 0 c))
      = (∑ k ∈ Finset.range 128000, row (m (xLoc d)) c k) + ∑ k ∈ Finset.range 80000, row (m (xLoc d)) c (128000 + k) := by
  rw [V2_v1, V2_v2, tiles_sum, accP_sum (V1 m d) (m (xLoc d)) (V1_arg0 m d) c 10 le_rfl]

theorem total_sum (c : Fin 128) : (accS (V2 m d) 56 : S1x128.Idx → EReal) (ix2 0 c) = colSum (m (xLoc d)) c := by
  rw [accS_sum (V2 m d) (m (xLoc d)) (V2_arg0 m d) c 55 (by decide), seed_sum]
  exact three_parts (row (m (xLoc d)) c)

theorem total_dense (c : Fin 128) :
    ((∑ r ∈ Finset.range 32, row (n := 32) (V2 m d (Proc.devRef .tc main_v1)) c r) + (V2 m d (Proc.devRef .tc main_v2) : S1x128.Idx → EReal) (ix2 0 c))
      + (accD (V2 m d) 56 : S1x128.Idx → EReal) (ix2 0 c) = colSum (m (xLoc d)) c := by
  rw [accD_sum (V2 m d) (m (xLoc d)) (V2_arg0 m d) c 56 le_rfl, seed_sum]
  exact three_parts (row (m (xLoc d)) c)

theorem sum_result (c : Fin 128) : (V4 m d (Proc.devRef .tc main_v6) : S128.Idx → EReal) (ix1 c) = colSum (m (xLoc d)) c := by
  rw [V4_sum, cast_down, total_sum]

/-! ## The comparison -/

theorem one_pos : (0 : EReal) < Ideal.ofBits .f32 0x3F800000#32 := by
  have : (Ideal.ofBits .f32 0x3F800000#32 : EReal) = 1 := IdealRules.sign_bit.ideal_onePat .f32
  rw [this]; exact zero_lt_one

theorem rtol_real : ∃ r : ℝ, 0 < r ∧ (Ideal.ofBits .f32 0x3727C5AC#32) = (r : EReal) := by
  refine ⟨_, ?_, by simp [Ideal.ofBits, Ideal.ieee]; rfl⟩
  positivity

theorem atol_real : ∃ r : ℝ, 0 < r ∧ (Ideal.ofBits .f32 0x322BCC77#32) = (r : EReal) := by
  refine ⟨_, ?_, by simp [Ideal.ofBits, Ideal.ieee]; rfl⟩
  positivity

/-- Every extended real is within the tolerance of itself: of an infinity both sides are infinite. -/
theorem close_self (s : EReal) :
    max (s - s) (-(s - s)) ≤ Ideal.ofBits .f32 0x322BCC77#32 + Ideal.ofBits .f32 0x3727C5AC#32 * max s (-s) := by
  obtain ⟨r, hr, er⟩ := rtol_real
  obtain ⟨a, ha, ea⟩ := atol_real
  rw [er, ea]
  induction s with
  | bot =>
    rw [EReal.neg_bot, max_eq_right bot_le, EReal.coe_mul_top_of_pos hr, EReal.coe_add_top]
    exact le_top
  | top =>
    rw [EReal.neg_top, max_eq_left bot_le, EReal.coe_mul_top_of_pos hr, EReal.coe_add_top]
    exact le_top
  | coe s =>
    rw [← EReal.coe_sub, sub_self, EReal.coe_zero, neg_zero, max_self]
    refine add_nonneg (EReal.coe_nonneg.2 ha.le) (mul_nonneg (EReal.coe_nonneg.2 hr.le) ?_)
    rcases le_total 0 s with h | h
    · exact le_max_of_le_left (EReal.coe_nonneg.2 h)
    · exact le_max_of_le_right (EReal.neg_nonneg.2 (EReal.coe_nonpos.2 h))

theorem min_pos (v : S1x128.Idx → EReal) (h : S1x128.Reduces [1] S1) (hφ) (hacc) (j : S1.Idx) (hv : ∀ i, 0 < v i) :
    (0 : EReal) < multiReduction (F := Ideal) (φ := .f32) .minimumf [1] S1 v 0x7F800000#32 h hφ hacc j := by
  rw [multiReduction_minimumf_eq_fold]
  exact (Finset.lt_fold_min _).2 ⟨by simp [Ideal.ofBits, Ideal.ieee], fun i _ => hv i⟩

theorem max_nonpos (v : S1x128.Idx → EReal) (h : S1x128.Reduces [1] S1) (hφ) (hacc) (j : S1.Idx) (hv : ∀ i, v i ≤ 0) :
    multiReduction (F := Ideal) (φ := .f32) .maximumf [1] S1 v 0xFF800000#32 h hφ hacc j ≤ (0 : EReal) := by
  rw [multiReduction_maximumf_eq_fold]
  exact (Finset.fold_max_le _).2 ⟨by simp [Ideal.ofBits, Ideal.ieee], fun i _ => hv i⟩

/-- No lane's sum differs from itself. -/
theorem no_nan (s : S1x128.Idx → EReal) : (k2_pay18 (F := Ideal) s : EReal) ≤ 0 := by
  unfold k2_pay18
  refine max_nonpos _ reduces_S1x128_S1 (.inl rfl) rfl _ fun i => ?_
  obtain ⟨u, c, rfl⟩ : ∃ u c, i = ix2 u c := ⟨i 0, i 1, eq_ix2 i⟩
  rw [cast_up]
  show Scalar.select (Ideal.cmp .one _ _) _ _ ≤ _
  rw [show Ideal.cmp .one (k2_pay16 (F := Ideal) s (ix1 c)) (k2_pay16 (F := Ideal) s (ix1 c)) = 0#1 from by simp [Ideal.cmp], select_zero]
  exact le_of_eq zero_bits

/-- Two totals that agree lane by lane are close on every lane. -/
theorem all_close (p : S32x128.Idx → EReal) (q a s : S1x128.Idx → EReal)
    (h : ∀ c, ((∑ r ∈ Finset.range 32, row p c r) + q (ix2 0 c)) + a (ix2 0 c) = s (ix2 0 c)) :
    (0 : EReal) < k2_pay17 (F := Ideal) p q a s := by
  unfold k2_pay17
  refine min_pos _ reduces_S1x128_S1 (.inl rfl) rfl _ fun i => ?_
  obtain ⟨u, c, rfl⟩ : ∃ u c, i = ix2 u c := ⟨i 0, i 1, eq_ix2 i⟩
  rw [cast_up]
  have e : (addf (addf (multiReduction (F := Ideal) (φ := .f32) .add [0] S128 (shapeCast S32x128 p shapeCasts_S32x128_S32x128) 0x00000000#32 reduces_S32x128_S128 (.inl rfl) rfl)
      (shapeCast S128 q shapeCasts_S1x128_S128)) (shapeCast S128 a shapeCasts_S1x128_S128) : S128.Idx → EReal) (ix1 c) = s (ix2 0 c) := by
    rw [← h c, addf_at, addf_at, cast_down, cast_down, shapeCast_self]
    exact congrArg (fun z => (z + _) + _) (sum_rows (n := 32) p _ _ _ _ c)
  have e' : (k2_pay16 (F := Ideal) s : S128.Idx → EReal) (ix1 c) = s (ix2 0 c) := cast_down s _ c
  show 0 < Scalar.select (Ideal.cmp .ole (max ((_ : EReal) - _) (-(_ - _))) (_ + _ * max _ (-_))) _ _
  rw [e, e']
  rw [show Ideal.cmp .ole _ _ = 1#1 from by
    simp only [Ideal.cmp]
    exact congrArg BitVec.ofBool (decide_eq_true (close_self (s (ix2 0 c)))), select_one]
  exact one_pos

theorem word_one (p : S32x128.Idx → EReal) (q a s : S1x128.Idx → EReal)
    (h : ∀ c, ((∑ r ∈ Finset.range 32, row p c r) + q (ix2 0 c)) + a (ix2 0 c) = s (ix2 0 c)) : okWord (F := Ideal) p q a s = 1#32 := by
  have h1 : Ideal.cmp .ogt (k2_pay18 (F := Ideal) s) (Ideal.ofBits .f32 0x00000000#32) = 0#1 := by
    simp only [Ideal.cmp, Ideal.ofBits_zero_f32]
    rw [decide_eq_false (not_lt.2 (no_nan s))]
    rfl
  have h2 : Ideal.cmp .ogt (k2_pay17 (F := Ideal) p q a s) (Ideal.ofBits .f32 0x00000000#32) = 1#1 := by
    simp only [Ideal.cmp, Ideal.ofBits_zero_f32]
    rw [decide_eq_true (all_close p q a s h)]
    rfl
  show Scalar.extui (Scalar.andi (Scalar.xori (Ideal.cmp .ogt (k2_pay18 (F := Ideal) s) (Ideal.ofBits .f32 0x00000000#32)) 1#1)
    (Ideal.cmp .ogt (k2_pay17 (F := Ideal) p q a s) (Ideal.ofBits .f32 0x00000000#32))) = 1#32
  rw [h1, h2]
  decide

theorem flag_result : V4 m d (Proc.devRef .tc main_v5) = fun _ => 1#1 := by
  rw [V4_flag, okAt, scpBlk_eq, tcpBlk_eq,
    word_one _ _ _ _ fun c => (total_dense m d c).trans (total_sum m d c).symm]
  funext i
  decide

end Cert.Proof.K

end
-- ==== Proof.RefVal.lean ====
/-
  The reference's two results over the extended reals: the column sums its scatter accumulates, and the flag one.
-/
module

public import proofs.«01_k».proof.Proof.Gen.ReferenceIdeal.Run
public import proofs.«01_k».proof.Proof.ValK
public import Idealize.ShloMosaic.Lib.Routing.OpsPair
public import Idealize.ShloMosaic.Lib.StableHlo.Predicate

@[expose] public section

noncomputable section

namespace Cert.Proof.R

open Cert.ReferenceIdeal Cert.ReferenceIdeal.Gen
open Cert.Proof.K (row colSum zero_bits lift_rows row_fin)
open Idealize.ShloMosaic
open Idealize.ShloMosaic.TcCoe

/-- The flat positions' columns, as the reference writes them. -/
def cols : IVec S40960000 32 :=
  shapeCast _ (broadcastInDim S320000x128 ![0, 1] bcast_S1x128_S320000x128_0_1 (shapeCast _ (iotaInDim S128 32 0) shapeCasts_S128_S1x128)) shapeCasts_S320000x128_S40960000

/-- The scatter's indices: the columns behind the wrap of a negative one. -/
def inds : IVec S40960000x1 32 :=
  broadcastInDim S40960000x1 ![0] bcast_S40960000_S40960000x1_0
    (select (cmpi .slt cols (broadcastInDim S40960000 ![] bcast_S_S40960000 (constantI S_ 32 0#32)))
      (addi cols (broadcastInDim S40960000 ![] bcast_S_S40960000 (constantI S_ 32 128#32))) cols)

/-- The flat values. -/
def flat (x : S320000x128.Idx → EReal) : S40960000.Idx → EReal := shapeCast _ x shapeCasts_S320000x128_S40960000

/-- The scatter's updates: the values that are not zero, and zero for the others. -/
def upds (x : S320000x128.Idx → EReal) : FVec Ideal S40960000 .f32 :=
  select (cmpf (F := Ideal) (φ := .f32) .une (flat x) (broadcastInDim S40960000 ![] bcast_S_S40960000 (constant S_ .f32 0x00000000#32))) (flat x)
    (broadcastInDim S40960000 ![] bcast_S_S40960000 (constant (F := Ideal) S_ .f32 0x00000000#32))

/-- The scatter's result. -/
def sums (x : S320000x128.Idx → EReal) : FVec Ideal S128 .f32 :=
  Host.scatterAdd scatter_S128_S40960000x1_S40960000_n_0_0_1 (broadcastInDim S128 ![] bcast_S_S128 (constant S_ .f32 0x00000000#32)) inds (upds x)

theorem rowMajor_split (n : Fin 40960000) :
    (S320000x128.rowMajor (ix2 (⟨n.val / 128, by have := n.isLt; omega⟩ : Fin 320000) (⟨n.val % 128, by omega⟩ : Fin 128))).val = (S40960000.rowMajor (ix1 n)).val := by
  rw [Shape.rowMajor_val_two, Shape.rowMajor_val_one]
  show n.val / 128 * 128 + n.val % 128 = n.val
  omega

theorem flat_at (x : S320000x128.Idx → EReal) (n : Fin 40960000) :
    flat x (ix1 n) = x (ix2 (⟨n.val / 128, by have := n.isLt; omega⟩ : Fin 320000) (⟨n.val % 128, by omega⟩ : Fin 128)) :=
  shapeCast_apply _ _ _ _ (rowMajor_split n)

theorem cols_at (n : Fin 40960000) : cols (ix1 n) = BitVec.ofNat 32 (n.val % 128) := by
  refine (shapeCast_apply _ _ _ _ (rowMajor_split n)).trans ?_
  refine (shapeCast_apply _ _ _ (ix1 (⟨n.val % 128, by omega⟩ : Fin 128)) ?_).trans rfl
  rw [Shape.rowMajor_val_two, Shape.rowMajor_val_one]
  show n.val % 128 = 0 * 128 + n.val % 128
  omega

theorem inds_at (n : Fin 40960000) (u : Fin 1) : inds (ix2 n u) = BitVec.ofNat 32 (n.val % 128) := by
  have e : inds (ix2 n u) = select (cmpi .slt cols (broadcastInDim S40960000 ![] bcast_S_S40960000 (constantI S_ 32 0#32)))
      (addi cols (broadcastInDim S40960000 ![] bcast_S_S40960000 (constantI S_ 32 128#32))) cols (ix1 n) := by
    unfold inds broadcastInDim
    refine congrArg _ (funext fun a => ?_)
    match a with
    | ⟨0, _⟩ => rfl
  rw [e]
  show Scalar.select (IntOp.cmpi .slt (cols (ix1 n)) 0#32) (IntOp.addi (cols (ix1 n)) 128#32) (cols (ix1 n)) = _
  rw [cols_at]
  refine Routing.wrap_of_lt _ _ ?_
  rw [BitVec.toNat_ofNat]
  omega

theorem upds_at (x : S320000x128.Idx → EReal) (i : S40960000.Idx) : upds x i = flat x i := by
  show Scalar.select (Ideal.cmp .une (flat x i) (Ideal.ofBits .f32 0x00000000#32)) (flat x i) (Ideal.ofBits .f32 0x00000000#32) = flat x i
  rw [Ideal.ofBits_zero_f32]
  by_cases h : flat x i = 0
  · rw [h]
    unfold Scalar.select
    split <;> rfl
  · rw [show Ideal.cmp .une (flat x i) 0 = 1#1 from congrArg BitVec.ofBool (decide_eq_true h)]
    exact ValueIdx.select_one _ _

/-- Update `n` lands at the column `n` has. -/
theorem lands (n : Fin 40960000) (c : Fin 128) :
    scatter_S128_S40960000x1_S40960000_n_0_0_1.resultIdx? (ix1 n) inds = some (ix1 c) ↔ n.val % 128 = c.val := by
  have hwin : scatter_S128_S40960000x1_S40960000_n_0_0_1.window (ix1 n) 0 = 0 := rfl
  have hm : (0 : Fin 1) ∈ scatter_S128_S40960000x1_S40960000_n_0_0_1.scatterDimsToOperandDims := List.mem_singleton.2 rfl
  have hstart : scatter_S128_S40960000x1_S40960000_n_0_0_1.start (ix1 n) inds 0 = ((n.val % 128 : ℕ) : Int) := by
    unfold ScatterDims.start
    rw [dif_pos hm]
    have hsi : scatter_S128_S40960000x1_S40960000_n_0_0_1.siIdx (ix1 n)
        ⟨scatter_S128_S40960000x1_S40960000_n_0_0_1.scatterDimsToOperandDims.idxOf 0, List.idxOf_lt_length_iff.2 hm⟩ = ix2 n (0 : Fin 1) := by
      funext b
      match b with
      | ⟨0, _⟩ => rfl
      | ⟨1, _⟩ => exact Subsingleton.elim (α := Fin 1) _ _
    rw [hsi, inds_at, StableHlo.Predicate.toInt_ofNat_small _ (by omega)]
  rw [Routing.resultIdx?_eq_some]
  constructor
  · intro h
    have h0 := h 0
    rw [hstart, hwin] at h0
    change ((n.val % 128 : ℕ) : Int) + ((0 : ℕ) : Int) = (c.val : Int) at h0
    omega
  · intro h a
    match a with
    | ⟨0, _⟩ =>
      show scatter_S128_S40960000x1_S40960000_n_0_0_1.start (ix1 n) inds 0 + (scatter_S128_S40960000x1_S40960000_n_0_0_1.window (ix1 n) 0 : Int) = (c.val : Int)
      rw [hstart, hwin]
      omega

/-- A scatter that adds, at one index: the sum over a range that counts the updates landing there. -/
theorem scatter_count {s si su : Shape} (d : ScatterDims s si su) {w : ℕ} (x : s.Idx → EReal) (idx : IVec si w) (upd : su.Idx → EReal) (i : s.Idx)
    (n : ℕ) (f : su.Idx → ℕ) (g : ℕ → su.Idx) (v : ℕ → EReal)
    (hf : ∀ j, d.resultIdx? j idx = some i → f j < n) (hg : ∀ r, r < n → d.resultIdx? (g r) idx = some i)
    (hgf : ∀ j, d.resultIdx? j idx = some i → g (f j) = j) (hfg : ∀ r, r < n → f (g r) = r)
    (hv : ∀ j, d.resultIdx? j idx = some i → upd j = v (f j)) :
    Ideal.hostScatterAdd d x idx upd i = x i + ∑ r ∈ Finset.range n, v r := by
  unfold Ideal.hostScatterAdd
  refine congrArg (fun z => x i + z) ?_
  exact Finset.sum_nbij' f g
    (fun j hj => Finset.mem_range.2 (hf j (Finset.mem_filter.1 hj).2))
    (fun r hr => Finset.mem_filter.2 ⟨Finset.mem_univ _, hg r (Finset.mem_range.1 hr)⟩)
    (fun j hj => hgf j (Finset.mem_filter.1 hj).2)
    (fun r hr => hfg r (Finset.mem_range.1 hr))
    (fun j hj => hv j (Finset.mem_filter.1 hj).2)

theorem idx_eta (j : S40960000.Idx) : j = ix1 (n0 := 40960000) (j 0) := funext fun a => by
  match a with
  | ⟨0, _⟩ => rfl

theorem upds_row (x : S320000x128.Idx → EReal) (n : Fin 40960000) (c : Fin 128) (h : n.val % 128 = c.val) :
    upds x (ix1 n) = row x c (n.val / 128) := by
  have hlt := n.isLt
  rw [upds_at, flat_at]
  unfold row
  refine congrArg x (congr (congrArg ix2 (Fin.ext ?_)) (Fin.ext h))
  show n.val / 128 = n.val / 128 % 320000
  omega

/-- The position in row `r` and column `c`. -/
def pos (c : Fin 128) (r : ℕ) : S40960000.Idx := ix1 (Fin.ofNat 40960000 (128 * r + c.val))

theorem lands_idx (j : S40960000.Idx) (c : Fin 128) :
    scatter_S128_S40960000x1_S40960000_n_0_0_1.resultIdx? j inds = some (ix1 c) ↔ (j 0).val % 128 = c.val := by
  refine Iff.trans ?_ (lands (j 0) c)
  exact iff_of_eq (congrArg (fun z => scatter_S128_S40960000x1_S40960000_n_0_0_1.resultIdx? z inds = some (ix1 c)) (idx_eta j))

theorem lands_pos (c : Fin 128) (r : ℕ) (hr : r < 320000) :
    scatter_S128_S40960000x1_S40960000_n_0_0_1.resultIdx? (pos c r) inds = some (ix1 c) := by
  have hc := c.isLt
  refine (lands _ c).2 ?_
  show (128 * r + c.val) % 40960000 % 128 = c.val
  omega

theorem pos_row (c : Fin 128) (r : ℕ) (hr : r < 320000) : (pos c r 0).val / 128 = r := by
  have hc := c.isLt
  show (128 * r + c.val) % 40960000 / 128 = r
  omega

theorem pos_eta (c : Fin 128) (j : S40960000.Idx) (h : (j 0).val % 128 = c.val) : pos c ((j 0).val / 128) = j := by
  have hc := c.isLt
  have : (j 0).val < 40960000 := (j 0).isLt
  refine Eq.trans ?_ (idx_eta j).symm
  refine congrArg ix1 (Fin.ext ?_)
  show (128 * ((j 0).val / 128) + c.val) % 40960000 = (j 0).val
  omega

theorem row_lt (j : S40960000.Idx) : (j 0).val / 128 < 320000 := by
  have : (j 0).val < 40960000 := (j 0).isLt
  omega

theorem upds_idx (x : S320000x128.Idx → EReal) (j : S40960000.Idx) (c : Fin 128) (h : (j 0).val % 128 = c.val) :
    upds x j = row x c ((j 0).val / 128) :=
  (congrArg (upds x) (idx_eta j)).trans (upds_row x (j 0) c h)

theorem sums_scatter (x : S320000x128.Idx → EReal) : sums x
    = Ideal.hostScatterAdd scatter_S128_S40960000x1_S40960000_n_0_0_1 (broadcastInDim S128 ![] bcast_S_S128 (constant (F := Ideal) S_ .f32 0x00000000#32)) inds (upds x) := by
  unfold sums Host.scatterAdd
  exact Ideal.hostScatterAdd_def ..

theorem scatter_rows (x : S320000x128.Idx → EReal) (c : Fin 128) (X : S128.Idx → EReal) :
    Ideal.hostScatterAdd scatter_S128_S40960000x1_S40960000_n_0_0_1 X inds (upds x) (ix1 c) = X (ix1 c) + ∑ r ∈ Finset.range 320000, row x c r :=
  scatter_count scatter_S128_S40960000x1_S40960000_n_0_0_1 _ inds (upds x) (ix1 c) 320000 (fun j => (j 0).val / 128) (pos c) (row x c)
    (fun j _ => row_lt j) (fun r hr => lands_pos c r hr) (fun j hj => pos_eta c j ((lands_idx j c).1 hj)) (fun r hr => pos_row c r hr)
    (fun j hj => upds_idx x j c ((lands_idx j c).1 hj))

theorem init_zero (c : Fin 128) :
    (broadcastInDim S128 ![] bcast_S_S128 (constant (F := Ideal) S_ .f32 0x00000000#32) : S128.Idx → EReal) (ix1 c) = 0 := Ideal.ofBits_zero_f32

theorem sums_at (x : S320000x128.Idx → EReal) (c : Fin 128) : (sums x : S128.Idx → EReal) (ix1 c) = colSum x c := by
  rw [sums_scatter, scatter_rows, init_zero, zero_add]
  unfold colSum
  exact rfl

theorem dense_at (x : S320000x128.Idx → EReal) (c : Fin 128) :
    (Host.reduceAdd (F := Ideal) (φ := .f32) x (constant S_ .f32 0x00000000#32) reducesTo_S320000x128_S128_d0 h_S_ : S128.Idx → EReal) (ix1 c) = colSum x c := by
  have hR : S320000x128.Reduces [0] S128 := by decide
  show Ideal.hostReduceAdd reducesTo_S320000x128_S128_d0 x (Ideal.ofBits .f32 0x00000000#32) (ix1 c) = _
  rw [Ideal.hostReduceAdd_single _ hR, Ideal.ofBits_zero_f32, zero_add]
  unfold colSum
  rw [Finset.sum_range]
  exact Finset.sum_congr rfl fun k _ => (congrArg x (lift_rows hR c k)).trans (row_fin x c k).symm

/-- The two sums agree. -/
theorem dense_eq (x : S320000x128.Idx → EReal) :
    Host.reduceAdd (F := Ideal) (φ := .f32) x (constant S_ .f32 0x00000000#32) reducesTo_S320000x128_S128_d0 h_S_ = sums x := by
  funext i
  obtain ⟨c, rfl⟩ : ∃ c : Fin 128, i = ix1 c := ⟨i 0, funext fun a => by match a with | ⟨0, _⟩ => rfl⟩
  exact (dense_at x c).trans (sums_at x c).symm

theorem fold_same {α ι : Type} (f : α → α → α) [Std.Commutative f] [Std.Associative f] (a : α) (h : f a a = a) (s : Finset ι) :
    s.fold f a (fun _ => a) = a := by
  induction s using Finset.cons_induction with
  | empty => rfl
  | cons i s hi ih => rw [Finset.fold_cons, ih, h]

/-- Two sums that agree compare close. -/
theorem flag_one (v s : FVec Ideal S128 .f32) (w : IVec S128 1) (h : v = s) :
    andi (noti (Host.reduce IntOp.ori (cmpf .une s s) (constantI S_ 1 0#1) reducesTo_S128_S_d0 h_S_))
      (Host.reduce IntOp.andi (ori (cmpf .oeq v s) w) (constantI S_ 1 1#1) reducesTo_S128_S_d0 h_S_) = fun _ => 1#1 := by
  subst h
  have e1 : cmpf .une v v = fun _ => 0#1 := funext fun i => congrArg BitVec.ofBool (decide_eq_false (not_not.2 rfl))
  have e2 : ori (cmpf .oeq v v) w = fun _ => 1#1 := funext fun i => by
    have : cmpf .oeq v v i = 1#1 := congrArg BitVec.ofBool (decide_eq_true rfl)
    show IntOp.ori (cmpf .oeq v v i) (w i) = 1#1
    rw [this]
    generalize w i = b
    revert b
    decide
  rw [e1, e2]
  funext i
  have r1 : Host.reduce IntOp.ori (fun _ => 0#1 : IVec S128 1) (constantI S_ 1 0#1) reducesTo_S128_S_d0 h_S_ i = 0#1 := by
    rw [Host.reduce_eq_fold]
    exact fold_same IntOp.ori 0#1 (by decide) _
  have r2 : Host.reduce IntOp.andi (fun _ => 1#1 : IVec S128 1) (constantI S_ 1 1#1) reducesTo_S128_S_d0 h_S_ i = 1#1 := by
    rw [Host.reduce_eq_fold]
    exact fold_same IntOp.andi 1#1 (by decide) _
  unfold andi noti
  rw [r1, r2]
  decide

theorem flag_result (m : (ℓ : Loc nD τ sig) → Buf (Elt Ideal) ℓ) (c : Dev nD) : Value.res_main_v36 m c = fun _ => 1#1 := by
  unfold Value.res_main_v36
  exact flag_one _ _ _ (dense_eq (m ((c.tc : Thread nD τ).loc main_arg0)))

end Cert.Proof.R

end
-- ==== Proof.Value.lean ====
/-
  The value claim: over the extended reals the program and the reference end with the same flag and the same sums.
-/
module

public import proofs.«01_k».proof.Defs
public import proofs.«01_k».proof.Proof.RefVal

@[expose] public section

noncomputable section

namespace Cert.Proof.K

open Idealize.ShloMosaic Idealize.SL.Sem
open Idealize.ShloMosaic.TcCoe

/-- The column sums of `x`, as a result. -/
def colSums (x : Cert.KernelIdeal.S320000x128.Idx → EReal) : Cert.KernelIdeal.S128.Idx → EReal := fun i => colSum x (i 0)

theorem idx1 (i : Cert.KernelIdeal.S128.Idx) : i = ix1 (n0 := 128) (i 0) := funext fun a => by
  match a with
  | ⟨0, _⟩ => rfl

theorem sums_kernel (m : (ℓ : Loc Cert.KernelIdeal.nD Cert.KernelIdeal.τ Cert.KernelIdeal.sig) → Buf (Elt Ideal) ℓ) (d : Dev Cert.KernelIdeal.nD) :
    V4 m d (Proc.devRef .tc Cert.KernelIdeal.main_v6) = colSums (m (xLoc d)) :=
  funext fun i => (congrArg (V4 m d (Proc.devRef .tc Cert.KernelIdeal.main_v6)) (idx1 i)).trans (sum_result m d (i 0))

theorem sums_reference (x : Cert.KernelIdeal.S320000x128.Idx → EReal) : R.sums x = colSums x :=
  funext fun i => (congrArg (R.sums x) (idx1 i)).trans (R.sums_at x (i 0))

/-- The two programs' results agree. -/
theorem algebraic : Cert.algebraic_KernelIdeal_ReferenceIdeal := by
  intro m g m' g' _ hm
  refine ⟨fun _ => fun _ => 1#1, fun c => colSums (m (xLoc c)), ?_, ?_⟩
  · refine (θ_run Cert.KernelIdeal.defs _ _).mono (fun r h c => ⟨?_, ?_, ?_⟩) (run_main (F := Ideal) m g)
    · exact (h.1 c _ v5_mem).trans (flag_result m c)
    · exact (h.1 c _ v6_mem).trans (sums_kernel m c)
    · exact (h.1 c _ arg0_mem).trans (V4_arg0 m c)
  · refine (θ_run Cert.ReferenceIdeal.defs _ _).mono (fun r h c => ⟨?_, ?_, (h c).2.2⟩) (Cert.ReferenceIdeal.Value.run (F := Ideal) m' g')
    · exact (h c).1.trans (R.flag_result m' c)
    · exact (h c).2.1.trans ((sums_reference _).trans (congrArg colSums (hm c)))

end Cert.Proof.K

end
-- ==== Proof.lean ====
/-
  The claims of the certificate: the frames of the kernel, of its idealized form and of the reference, that idealizing keeps the
  kernel's text, and that kernel and reference end with the same results over the extended reals.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Frames
public import proofs.«01_k».proof.Proof.Value
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  K.frame_kernel, K.frame_kernelIdeal, K.frame_reference, trivial, K.algebraic⟩

end Cert.Proof

end
